-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v541) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x1024 : Shape := ⟨3, ![4, 2048, 1024]⟩
abbrev S2048x1024 : Shape := ⟨2, ![2048, 1024]⟩
abbrev S1024x2048 : Shape := ⟨2, ![1024, 2048]⟩
abbrev S128x1024 : Shape := ⟨2, ![128, 1024]⟩
abbrev S128x2048 : Shape := ⟨2, ![128, 2048]⟩
abbrev S128 : Shape := ⟨1, ![128]⟩
abbrev S2048x128 : Shape := ⟨2, ![2048, 128]⟩
abbrev S8x128x128 : Shape := ⟨3, ![8, 128, 128]⟩
abbrev S8x128 : Shape := ⟨2, ![8, 128]⟩
abbrev S2x1024 : Shape := ⟨2, ![2, 1024]⟩
abbrev S4x1024 : Shape := ⟨2, ![4, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S128x1024 : S_.BroadcastsInDim S128x1024 (![] : Fin 0 → Fin S128x1024.rank)
  reducesTo_S128x1024_S_d0_1 : S128x1024.ReducesTo [0, 1] S_
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S2048x128 : S_.BroadcastsInDim S2048x128 (![] : Fin 0 → Fin S2048x128.rank)
  reducesTo_S2048x128_S_d0_1 : S2048x128.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S2x1024 : S_.BroadcastsInDim S2x1024 (![] : Fin 0 → Fin S2x1024.rank)
  reducesTo_S2x1024_S_d0_1 : S2x1024.ReducesTo [0, 1] S_
  bcast_S_S4x1024 : S_.BroadcastsInDim S4x1024 (![] : Fin 0 → Fin S4x1024.rank)
  reducesTo_S4x1024_S_d0_1 : S4x1024.ReducesTo [0, 1] S_

variable [Facts]

def fn_part4 {F : FTy → Type} [FloatOps F] (main_arg14 : FVec F S2x1024 .f32) (main_arg15 : FVec F S4x1024 .f32) (main_v63 : IVec S_ 1) (main_v67 : IVec S_ 1) : IVec S_ 1 :=
  let main_v68 : IVec S_ 1 := andi main_v63 main_v67
  let main_v69 : FVec F S2x1024 .f32 := Host.absf main_arg14
  let main_cst_26 : FVec F S_ .f32 := constant S_ .f32 0x7F800000#32
  let main_v70 : FVec F S2x1024 .f32 := broadcastInDim S2x1024 ![] bcast_S_S2x1024 main_cst_26
  let main_v71 : IVec S2x1024 1 := cmpf .olt main_v69 main_v70
  let main_c_27 : IVec S_ 1 := constantI S_ 1 1#1
  let main_v72 : IVec S_ 1 := (fun x v => Host.reduce IntOp.andi x v reducesTo_S2x1024_S_d0_1 h_S_) main_v71 main_c_27
  let main_v73 : IVec S_ 1 := andi main_v68 main_v72
  let main_v74 : FVec F S4x1024 .f32 := Host.absf main_arg15
  let main_cst_28 : FVec F S_ .f32 := constant S_ .f32 0x7F800000#32
  let main_v75 : FVec F S4x1024 .f32 := broadcastInDim S4x1024 ![] bcast_S_S4x1024 main_cst_28
  let main_v76 : IVec S4x1024 1 := cmpf .olt main_v74 main_v75
  let main_c_29 : IVec S_ 1 := constantI S_ 1 1#1
  let main_v77 : IVec S_ 1 := (fun x v => Host.reduce IntOp.andi x v reducesTo_S4x1024_S_d0_1 h_S_) main_v76 main_c_29
  let main_v78 : IVec S_ 1 := andi main_v73 main_v77
  main_v78

def fn_part3 {F : FTy → Type} [FloatOps F] (main_arg11 : FVec F S8x128 .f32) (main_arg12 : FVec F S2048x128 .f32) (main_arg13 : FVec F S1024x2048 .f32) (main_arg14 : FVec F S2x1024 .f32) (main_arg15 : FVec F S4x1024 .f32) (main_v48 : IVec S_ 1) (main_v49 : FVec F S8x128 .f32) (main_v50 : FVec F S8x128 .f32) : IVec S_ 1 :=
  let main_v51 : IVec S8x128 1 := cmpf .olt main_v49 main_v50
  let main_c_19 : IVec S_ 1 := constantI S_ 1 1#1
  let main_v52 : IVec S_ 1 := (fun x v => Host.reduce IntOp.andi x v reducesTo_S8x128_S_d0_1 h_S_) main_v51 main_c_19
  let main_v53 : IVec S_ 1 := andi main_v48 main_v52
  let main_v54 : FVec F S8x128 .f32 := Host.absf main_arg11
  let main_cst_20 : FVec F S_ .f32 := constant S_ .f32 0x7F800000#32
  let main_v55 : FVec F S8x128 .f32 := broadcastInDim S8x128 ![] bcast_S_S8x128 main_cst_20
  let main_v56 : IVec S8x128 1 := cmpf .olt main_v54 main_v55
  let main_c_21 : IVec S_ 1 := constantI S_ 1 1#1
  let main_v57 : IVec S_ 1 := (fun x v => Host.reduce IntOp.andi x v reducesTo_S8x128_S_d0_1 h_S_) main_v56 main_c_21
  let main_v58 : IVec S_ 1 := andi main_v53 main_v57
  let main_v59 : FVec F S2048x128 .f32 := Host.absf main_arg12
  let main_cst_22 : FVec F S_ .f32 := constant S_ .f32 0x7F800000#32
  let main_v60 : FVec F S2048x128 .f32 := broadcastInDim S2048x128 ![] bcast_S_S2048x128 main_cst_22
  let main_v61 : IVec S2048x128 1 := cmpf .olt main_v59 main_v60
  let main_c_23 : IVec S_ 1 := constantI S_ 1 1#1
  let main_v62 : IVec S_ 1 := (fun x v => Host.reduce IntOp.andi x v reducesTo_S2048x128_S_d0_1 h_S_) main_v61 main_c_23
  let main_v63 : IVec S_ 1 := andi main_v58 main_v62
  let main_v64 : FVec F S1024x2048 .f32 := Host.absf main_arg13
  let main_cst_24 : FVec F S_ .f32 := constant S_ .f32 0x7F800000#32
  let main_v65 : FVec F S1024x2048 .f32 := broadcastInDim S1024x2048 ![] bcast_S_S1024x2048 main_cst_24
  let main_v66 : IVec S1024x2048 1 := cmpf .olt main_v64 main_v65
  let main_c_25 : IVec S_ 1 := constantI S_ 1 1#1
  let main_v67 : IVec S_ 1 := (fun x v => Host.reduce IntOp.andi x v reducesTo_S1024x2048_S_d0_1 h_S_) main_v66 main_c_25
  fn_part4 (F := F) main_arg14 main_arg15 main_v63 main_v67

def fn_part2 {F : FTy → Type} [FloatOps F] (main_arg7 : FVec F S128 .f32) (main_arg8 : FVec F S2048x128 .f32) (main_arg9 : FVec F S8x128x128 .f32) (main_arg10 : FVec F S8x128 .f32) (main_arg11 : FVec F S8x128 .f32) (main_arg12 : FVec F S2048x128 .f32) (main_arg13 : FVec F S1024x2048 .f32) (main_arg14 : FVec F S2x1024 .f32) (main_arg15 : FVec F S4x1024 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2048x128 .f32 := Host.absf main_arg8
  let main_cst_14 : FVec F S_ .f32 := constant S_ .f32 0x7F800000#32
  let main_v40 : FVec F S2048x128 .f32 := broadcastInDim S2048x128 ![] bcast_S_S2048x128 main_cst_14
  let main_v41 : IVec S2048x128 1 := cmpf .olt main_v39 main_v40
  let main_c_15 : IVec S_ 1 := constantI S_ 1 1#1
  let main_v42 : IVec S_ 1 := (fun x v => Host.reduce IntOp.andi x v reducesTo_S2048x128_S_d0_1 h_S_) main_v41 main_c_15
  let main_v43 : IVec S_ 1 := andi main_v38 main_v42
  let main_v44 : FVec F S8x128x128 .f32 := Host.absf main_arg9
  let main_cst_16 : FVec F S_ .f32 := constant S_ .f32 0x7F800000#32
  let main_v45 : FVec F S8x128x128 .f32 := broadcastInDim S8x128x128 ![] bcast_S_S8x128x128 main_cst_16
  let main_v46 : IVec S8x128x128 1 := cmpf .olt main_v44 main_v45
  let main_c_17 : IVec S_ 1 := constantI S_ 1 1#1
  let main_v47 : IVec S_ 1 := (fun x v => Host.reduce IntOp.andi x v reducesTo_S8x128x128_S_d0_1_2 h_S_) main_v46 main_c_17
  let main_v48 : IVec S_ 1 := andi main_v43 main_v47
  let main_v49 : FVec F S8x128 .f32 := Host.absf main_arg10
  let main_cst_18 : FVec F S_ .f32 := constant S_ .f32 0x7F800000#32
  let main_v50 : FVec F S8x128 .f32 := broadcastInDim S8x128 ![] bcast_S_S8x128 main_cst_18
  fn_part3 (F := F) main_arg11 main_arg12 main_arg13 main_arg14 main_arg15 main_v48 main_v49 main_v50

def fn_part1 {F : FTy → Type} [FloatOps F] (main_arg4 : FVec F S128x1024 .f32) (main_arg5 : FVec F S128x2048 .f32) (main_arg6 : FVec F S128 .f32) (main_arg7 : FVec F S128 .f32) (main_arg8 : FVec F S2048x128 .f32) (main_arg9 : FVec F S8x128x128 .f32) (main_arg10 : FVec F S8x128 .f32) (main_arg11 : FVec F S8x128 .f32) (main_arg12 : FVec F S2048x128 .f32) (main_arg13 : FVec F S1024x2048 .f32) (main_arg14 : FVec F S2x1024 .f32) (main_arg15 : FVec F S4x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S128x1024 .f32 := Host.absf main_arg4
  let main_cst_6 : FVec F S_ .f32 := constant S_ .f32 0x7F800000#32
  let main_v20 : FVec F S128x1024 .f32 := broadcastInDim S128x1024 ![] bcast_S_S128x1024 main_cst_6
  let main_v21 : IVec S128x1024 1 := cmpf .olt main_v19 main_v20
  let main_c_7 : IVec S_ 1 := constantI S_ 1 1#1
  let main_v22 : IVec S_ 1 := (fun x v => Host.reduce IntOp.andi x v reducesTo_S128x1024_S_d0_1 h_S_) main_v21 main_c_7
  let main_v23 : IVec S_ 1 := andi main_v18 main_v22
  let main_v24 : FVec F S128x2048 .f32 := Host.absf main_arg5
  let main_cst_8 : FVec F S_ .f32 := constant S_ .f32 0x7F800000#32
  let main_v25 : FVec F S128x2048 .f32 := broadcastInDim S128x2048 ![] bcast_S_S128x2048 main_cst_8
  let main_v26 : IVec S128x2048 1 := cmpf .olt main_v24 main_v25
  let main_c_9 : IVec S_ 1 := constantI S_ 1 1#1
  let main_v27 : IVec S_ 1 := (fun x v => Host.reduce IntOp.andi x v reducesTo_S128x2048_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4x2048x1024 .f32) (main_arg1 : FVec F S2048x1024 .f32) (main_arg2 : FVec F S2048x1024 .f32) (main_arg3 : FVec F S1024x2048 .f32) (main_arg4 : FVec F S128x1024 .f32) (main_arg5 : FVec F S128x2048 .f32) (main_arg6 : FVec F S128 .f32) (main_arg7 : FVec F S128 .f32) (main_arg8 : FVec F S2048x128 .f32) (main_arg9 : FVec F S8x128x128 .f32) (main_arg10 : FVec F S8x128 .f32) (main_arg11 : FVec F S8x128 .f32) (main_arg12 : FVec F S2048x128 .f32) (main_arg13 : FVec F S1024x2048 .f32) (main_arg14 : FVec F S2x1024 .f32) (main_arg15 : FVec F S4x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4x2048x1024 : Shape := ⟨3, ![4, 2048, 1024]⟩
abbrev S2048x1024 : Shape := ⟨2, ![2048, 1024]⟩
abbrev S1024x2048 : Shape := ⟨2, ![1024, 2048]⟩
abbrev S128x1024 : Shape := ⟨2, ![128, 1024]⟩
abbrev S128x2048 : Shape := ⟨2, ![128, 2048]⟩
abbrev S128 : Shape := ⟨1, ![128]⟩
abbrev S2048x128 : Shape := ⟨2, ![2048, 128]⟩
abbrev S8x128x128 : Shape := ⟨3, ![8, 128, 128]⟩
abbrev S8x128 : Shape := ⟨2, ![8, 128]⟩
abbrev S2x1024 : Shape := ⟨2, ![2, 1024]⟩
abbrev S4x1024 : Shape := ⟨2, ![4, 1024]⟩
abbrev S8192x1024 : Shape := ⟨2, ![8192, 1024]⟩
abbrev S_ : Shape := ⟨0, ![]⟩
abbrev S8x1024 : Shape := ⟨2, ![8, 1024]⟩
abbrev S1x128 : Shape := ⟨2, ![1, 128]⟩
abbrev S8192x2048 : Shape := ⟨2, ![8192, 2048]⟩
abbrev S8192x128 : Shape := ⟨2, ![8192, 128]⟩
abbrev S8192x8 : Shape := ⟨2, ![8192, 8]⟩
abbrev S1024x1024 : Shape := ⟨2, ![1024, 1024]⟩
abbrev S1024x128 : Shape := ⟨2, ![1024, 128]⟩
abbrev S1024x8 : Shape := ⟨2, ![1024, 8]⟩
abbrev S1024 : Shape := ⟨1, ![1024]⟩
abbrev S1024x1 : Shape := ⟨2, ![1024, 1]⟩
abbrev S4x2048x128 : Shape := ⟨3, ![4, 2048, 128]⟩
abbrev S4x2048x2048 : Shape := ⟨3, ![4, 2048, 2048]⟩
abbrev S4x2048x8 : Shape := ⟨3, ![4, 2048, 8]⟩
abbrev S1x1024x128 : Shape := ⟨3, ![1, 1024, 128]⟩
abbrev S1x2048x128 : Shape := ⟨3, ![1, 2048, 128]⟩
abbrev S1x1024x2048 : Shape := ⟨3, ![1, 1024, 2048]⟩
abbrev S1x1024x8 : Shape := ⟨3, ![1, 1024, 8]⟩
abbrev S1x1024x1024 : Shape := ⟨3, ![1, 1024, 1024]⟩
abbrev S1024x2 : Shape := ⟨2, ![1024, 2]⟩
abbrev S1024x4 : Shape := ⟨2, ![1024, 4]⟩
abbrev S1x128x128 : Shape := ⟨3, ![1, 128, 128]⟩
abbrev S128x128 : Shape := ⟨2, ![128, 128]⟩

abbrev nBuf : Space → Nat
  | .hbm => 41
  | .vmem => 45
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S2048x1024, .f32⟩
  | .hbm, ⟨3, _⟩ => ⟨S1024x2048, .f32⟩
  | .hbm, ⟨4, _⟩ => ⟨S128x1024, .f32⟩
  | .hbm, ⟨5, _⟩ => ⟨S128x2048, .f32⟩
  | .hbm, ⟨6, _⟩ => ⟨S128, .f32⟩
  | .hbm, ⟨7, _⟩ => ⟨S128, .f32⟩
  | .hbm, ⟨8, _⟩ => ⟨S2048x128, .f32⟩
  | .hbm, ⟨9, _⟩ => ⟨S8x128x128, .f32⟩
  | .hbm, ⟨10, _⟩ => ⟨S8x128, .f32⟩
  | .hbm, ⟨11, _⟩ => ⟨S8x128, .f32⟩
  | .hbm, ⟨12, _⟩ => ⟨S2048x128, .f32⟩
  | .hbm, ⟨13, _⟩ => ⟨S1024x2048, .f32⟩
  | .hbm, ⟨14, _⟩ => ⟨S2x1024, .f32⟩
  | .hbm, ⟨15, _⟩ => ⟨S4x1024, .f32⟩
  | .hbm, ⟨16, _⟩ => ⟨S8192x1024, .f32⟩
  | .hbm, ⟨17, _⟩ => ⟨S2048x1024, .bf16⟩
  | .hbm, ⟨18, _⟩ => ⟨S2048x1024, .bf16⟩
  | .hbm, ⟨19, _⟩ => ⟨S1024x2048, .bf16⟩
  | .hbm, ⟨20, _⟩ => ⟨S128x2048, .bf16⟩
  | .hbm, ⟨21, _⟩ => ⟨S128x1024, .bf16⟩
  | .hbm, ⟨22, _⟩ => ⟨S_, .f32⟩
  | .hbm, ⟨23, _⟩ => ⟨S2x1024, .f32⟩
  | .hbm, ⟨24, _⟩ => ⟨S8x1024, .f32⟩
  | .hbm, ⟨25, _⟩ => ⟨S1x128, .f32⟩
  | .hbm, ⟨26, _⟩ => ⟨S1x128, .f32⟩
  | .hbm, ⟨27, _⟩ => ⟨S8192x2048, .bf16⟩
  | .hbm, ⟨28, _⟩ => ⟨S8192x128, .bf16⟩
  | .hbm, ⟨29, _⟩ => ⟨S8192x128, .bf16⟩
  | .hbm, ⟨30, _⟩ => ⟨S8192x128, .bf16⟩
  | .hbm, ⟨31, _⟩ => ⟨S8192x8, .f32⟩
  | .hbm, ⟨32, _⟩ => ⟨S1024x128, .bf16⟩
  | .hbm, ⟨33, _⟩ => ⟨S1024x128, .bf16⟩
  | .hbm, ⟨34, _⟩ => ⟨S4x2048x128, .bf16⟩
  | .hbm, ⟨35, _⟩ => ⟨S4x2048x128, .bf16⟩
  | .hbm, ⟨36, _⟩ => ⟨S4x2048x2048, .bf16⟩
  | .hbm, ⟨37, _⟩ => ⟨S4x2048x128, .bf16⟩
  | .hbm, ⟨38, _⟩ => ⟨S4x2048x8, .f32⟩
  | .hbm, ⟨39, _⟩ => ⟨S8x128x128, .bf16⟩
  | .hbm, ⟨40, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048x1024, .bf16⟩
  | .local _ .vmem, ⟨4, _⟩ => ⟨S128x2048, .bf16⟩
  | .local _ .vmem, ⟨5, _⟩ => ⟨S128x1024, .bf16⟩
  | .local _ .vmem, ⟨6, _⟩ => ⟨S8x1024, .f32⟩
  | .local _ .vmem, ⟨7, _⟩ => ⟨S1x128, .f32⟩
  | .local _ .vmem, ⟨8, _⟩ => ⟨S1x128, .f32⟩
  | .local _ .vmem, ⟨9, _⟩ => ⟨S1024x2048, .bf16⟩
  | .local _ .vmem, ⟨10, _⟩ => ⟨S1024x2048, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x8, .f32⟩
  | .local _ .vmem, ⟨18, _⟩ => ⟨S1024x8, .f32⟩
  | .local _ .vmem, ⟨19, _⟩ => ⟨S2048x128, .f32⟩
  | .local _ .vmem, ⟨20, _⟩ => ⟨S1024x2048, .f32⟩
  | .local _ .vmem, ⟨21, _⟩ => ⟨S2048x128, .f32⟩
  | .local _ .vmem, ⟨22, _⟩ => ⟨S1024x2048, .f32⟩
  | .local _ .vmem, ⟨23, _⟩ => ⟨S1024x128, .bf16⟩
  | .local _ .vmem, ⟨24, _⟩ => ⟨S1024x128, .bf16⟩
  | .local _ .vmem, ⟨25, _⟩ => ⟨S1x1024x128, .bf16⟩
  | .local _ .vmem, ⟨26, _⟩ => ⟨S1x1024x128, .bf16⟩
  | .local _ .vmem, ⟨27, _⟩ => ⟨S1x2048x128, .bf16⟩
  | .local _ .vmem, ⟨28, _⟩ => ⟨S1x2048x128, .bf16⟩
  | .local _ .vmem, ⟨29, _⟩ => ⟨S1x2048x128, .bf16⟩
  | .local _ .vmem, ⟨30, _⟩ => ⟨S1x2048x128, .bf16⟩
  | .local _ .vmem, ⟨31, _⟩ => ⟨S1x1024x2048, .bf16⟩
  | .local _ .vmem, ⟨32, _⟩ => ⟨S1x1024x2048, .bf16⟩
  | .local _ .vmem, ⟨33, _⟩ => ⟨S1024x2048, .bf16⟩
  | .local _ .vmem, ⟨34, _⟩ => ⟨S1x1024x128, .bf16⟩
  | .local _ .vmem, ⟨35, _⟩ => ⟨S1x1024x128, .bf16⟩
  | .local _ .vmem, ⟨36, _⟩ => ⟨S1x1024x8, .f32⟩
  | .local _ .vmem, ⟨37, _⟩ => ⟨S1x1024x8, .f32⟩
  | .local _ .vmem, ⟨38, _⟩ => ⟨S8x128x128, .bf16⟩
  | .local _ .vmem, ⟨39, _⟩ => ⟨S8x128, .f32⟩
  | .local _ .vmem, ⟨40, _⟩ => ⟨S8x128, .f32⟩
  | .local _ .vmem, ⟨41, _⟩ => ⟨S1024x128, .bf16⟩
  | .local _ .vmem, ⟨42, _⟩ => ⟨S1024x128, .bf16⟩
  | .local _ .vmem, ⟨43, _⟩ => ⟨S1x1024x1024, .f32⟩
  | .local _ .vmem, ⟨44, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev main_v10_3 : Ref sig .tc := ⟨.hbm, 30, rfl⟩
abbrev main_v10_4 : Ref sig .tc := ⟨.hbm, 31, rfl⟩
abbrev main_v11_0 : Ref sig .tc := ⟨.hbm, 32, rfl⟩
abbrev main_v11_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg12_0 : Ref sig .tc := ⟨.vmem, 43, rfl⟩
abbrev cc2_stg12_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem12_0 : DmaSem sig := 43
abbrev cc2_sem12_1 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := .none

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1024x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x1024x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x1024x8 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 1 → Memref sig .tc .vmem S8x128x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S8x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S8x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1024x128 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1024x128 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S1x1024x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]
-- ==== ReferenceIdeal.lean ====
abbrev S4x2048x1024 : Shape := ⟨3, ![4, 2048, 1024]⟩
abbrev S2048x1024 : Shape := ⟨2, ![2048, 1024]⟩
abbrev S1024x2048 : Shape := ⟨2, ![1024, 2048]⟩
abbrev S128x1024 : Shape := ⟨2, ![128, 1024]⟩
abbrev S128x2048 : Shape := ⟨2, ![128, 2048]⟩
abbrev S128 : Shape := ⟨1, ![128]⟩
abbrev S2048x128 : Shape := ⟨2, ![2048, 128]⟩
abbrev S8x128x128 : Shape := ⟨3, ![8, 128, 128]⟩
abbrev S8x128 : Shape := ⟨2, ![8, 128]⟩
abbrev S2x1024 : Shape := ⟨2, ![2, 1024]⟩
abbrev S4x1024 : Shape := ⟨2, ![4, 1024]⟩
abbrev S8192x1024 : Shape := ⟨2, ![8192, 1024]⟩
abbrev S1024x2 : Shape := ⟨2, ![1024, 2]⟩
abbrev S8192x2 : Shape := ⟨2, ![8192, 2]⟩
abbrev S_ : Shape := ⟨0, ![]⟩
abbrev S8192 : Shape := ⟨1, ![8192]⟩
abbrev S8192x1 : Shape := ⟨2, ![8192, 1]⟩
abbrev S1024x4 : Shape := ⟨2, ![1024, 4]⟩
abbrev S8192x4 : Shape := ⟨2, ![8192, 4]⟩
abbrev S8192x8 : Shape := ⟨2, ![8192, 8]⟩
abbrev S8192x2x1 : Shape := ⟨3, ![8192, 2, 1]⟩
abbrev S8192x2x2 : Shape := ⟨3, ![8192, 2, 2]⟩
abbrev S4x2048x8 : Shape := ⟨3, ![4, 2048, 8]⟩
abbrev S4x2048x2048 : Shape := ⟨3, ![4, 2048, 2048]⟩
abbrev S1024x128 : Shape := ⟨2, ![1024, 128]⟩
abbrev S4x2048x128 : Shape := ⟨3, ![4, 2048, 128]⟩
abbrev S4x2048 : Shape := ⟨2, ![4, 2048]⟩
abbrev S4x2048x1 : Shape := ⟨3, ![4, 2048, 1]⟩
abbrev S1x1x128 : Shape := ⟨3, ![1, 1, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 667
  | .vmem => 0
  | .smem => 0
  | _ => 0

abbrev hbmTy0_0 (i : Nat) : BufTy := match i % 128 with
  | 0 => ⟨S4x2048x1024, .f32⟩
  | 1 => ⟨S2048x1024, .f32⟩
  | 2 => ⟨S2048x1024, .f32⟩
  | 3 => ⟨S1024x2048, .f32⟩
  | 4 => ⟨S128x1024, .f32⟩
  | 5 => ⟨S128x2048, .f32⟩
  | 6 => ⟨S128, .f32⟩
  | 7 => ⟨S128, .f32⟩
  | 8 => ⟨S2048x128, .f32⟩
  | 9 => ⟨S8x128x128, .f32⟩
  | 10 => ⟨S8x128, .f32⟩
  | 11 => ⟨S8x128, .f32⟩
  | 12 => ⟨S2048x128, .f32⟩
  | 13 => ⟨S1024x2048, .f32⟩
  | 14 => ⟨S2x1024, .f32⟩
  | 15 => ⟨S4x1024, .f32⟩
  | 16 => ⟨S8192x1024, .f32⟩
  | 17 => ⟨S1024x2, .f32⟩
  | 18 => ⟨S8192x2, .f32⟩
  | 19 => ⟨S_, .f32⟩
  | 20 => ⟨S8192, .f32⟩
  | 21 => ⟨S_, .f32⟩
  | 22 => ⟨S8192, .f32⟩
  | 23 => ⟨S8192, .f32⟩
  | 24 => ⟨S8192x1, .f32⟩
  | 25 => ⟨S8192x2, .f32⟩
  | 26 => ⟨S8192x2, .f32⟩
  | 27 => ⟨S8192x2, .f32⟩
  | 28 => ⟨S_, .f32⟩
  | 29 => ⟨S8192, .f32⟩
  | 30 => ⟨S8192x1, .f32⟩
  | 31 => ⟨S8192x2, .f32⟩
  | 32 => ⟨S8192x2, .f32⟩
  | 33 => ⟨S8192x1, .f32⟩
  | 34 => ⟨S8192x1, .i32⟩
  | 35 => ⟨S8192, .i32⟩
  | 36 => ⟨S8192, .f32⟩
  | 37 => ⟨S1024x4, .f32⟩
  | 38 => ⟨S8192x4, .f32⟩
  | 39 => ⟨S_, .f32⟩
  | 40 => ⟨S8192, .f32⟩
  | 41 => ⟨S_, .f32⟩
  | 42 => ⟨S8192, .f32⟩
  | 43 => ⟨S8192, .f32⟩
  | 44 => ⟨S8192x1, .f32⟩
  | 45 => ⟨S8192x4, .f32⟩
  | 46 => ⟨S8192x4, .f32⟩
  | 47 => ⟨S8192x4, .f32⟩
  | 48 => ⟨S_, .f32⟩
  | 49 => ⟨S8192, .f32⟩
  | 50 => ⟨S8192x1, .f32⟩
  | 51 => ⟨S8192x4, .f32⟩
  | 52 => ⟨S8192x4, .f32⟩
  | 53 => ⟨S8192x2, .f32⟩
  | 54 => ⟨S8192x2, .i32⟩
  | 55 => ⟨S8192x1, .i32⟩
  | 56 => ⟨S_, .i32⟩
  | 57 => ⟨S8192x1, .i32⟩
  | 58 => ⟨S8192x1, .i32⟩
  | 59 => ⟨S8192x2, .i32⟩
  | 60 => ⟨S8192x2, .i32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S8192x2, .f32⟩
  | 68 => ⟨S8192x2, .f32⟩
  | 69 => ⟨S8192x1, .f32⟩
  | 70 => ⟨S8192x2, .f32⟩
  | 71 => ⟨S8192x2, .f32⟩
  | 72 => ⟨S_, .f32⟩
  | 73 => ⟨S8192x8, .f32⟩
  | 74 => ⟨S8192, .i32⟩
  | 75 => ⟨S8192x1, .i32⟩
  | 76 => ⟨S_, .i32⟩
  | 77 => ⟨S8192x1, .i32⟩
  | 78 => ⟨S8192x1, .i1⟩
  | 79 => ⟨S_, .i32⟩
  | 80 => ⟨S8192x1, .i32⟩
  | 81 => ⟨S8192x1, .i32⟩
  | 82 => ⟨S8192x1, .i32⟩
  | 83 => ⟨S_, .i32⟩
  | 84 => ⟨S8192x2, .i32⟩
  | 85 => ⟨S8192x2, .i1⟩
  | 86 => ⟨S_, .i32⟩
  | 87 => ⟨S8192x2, .i32⟩
  | 88 => ⟨S8192x2, .i32⟩
  | 89 => ⟨S8192x2, .i32⟩
  | 90 => ⟨S8192x2, .i32⟩
  | 91 => ⟨S8192x2x1, .i32⟩
  | 92 => ⟨S8192x2x1, .i32⟩
  | 93 => ⟨S8192x2x2, .i32⟩
  | 94 => ⟨S8192x8, .f32⟩
  | 95 => ⟨S4x2048x8, .f32⟩
  | 96 => ⟨S1024x2048, .f32⟩
  | 97 => ⟨S4x2048x2048, .f32⟩
  | 98 => ⟨S1024x2048, .f32⟩
  | 99 => ⟨S4x2048x2048, .f32⟩
  | 100 => ⟨S4x2048x2048, .f32⟩
  | 101 => ⟨S4x2048x2048, .f32⟩
  | 102 => ⟨S_, .f32⟩
  | 103 => ⟨S4x2048x2048, .f32⟩
  | 104 => ⟨S4x2048x2048, .f32⟩
  | 105 => ⟨S_, .f32⟩
  | 106 => ⟨S4x2048x2048, .f32⟩
  | 107 => ⟨S4x2048x2048, .f32⟩
  | 108 => ⟨S4x2048x2048, .f32⟩
  | 109 => ⟨S4x2048x2048, .f32⟩
  | 110 => ⟨S1024x128, .f32⟩
  | 111 => ⟨S4x2048x128, .f32⟩
  | 112 => ⟨S_, .f32⟩
  | 113 => ⟨S4x2048, .f32⟩
  | 114 => ⟨S4x2048x1, .f32⟩
  | 115 => ⟨S_, .f32⟩
  | 116 => ⟨S4x2048x1, .f32⟩
  | 117 => ⟨S4x2048x1, .f32⟩
  | 118 => ⟨S4x2048x128, .f32⟩
  | 119 => ⟨S4x2048x128, .f32⟩
  | 120 => ⟨S4x2048x128, .f32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S4x2048x128, .f32⟩
  | _ => ⟨S4x2048x1024, .f32⟩

abbrev hbmTy0_1 (i : Nat) : BufTy := match i % 128 with
  | 0 => ⟨S4x2048x128, .f32⟩
  | 1 => ⟨S_, .f32⟩
  | 2 => ⟨S4x2048x1, .f32⟩
  | 3 => ⟨S4x2048x1, .f32⟩
  | 4 => ⟨S4x2048x1, .f32⟩
  | 5 => ⟨S4x2048x128, .f32⟩
  | 6 => ⟨S4x2048x128, .f32⟩
  | 7 => ⟨S1x1x128, .f32⟩
  | 8 => ⟨S4x2048x128, .f32⟩
  | 9 => ⟨S4x2048x128, .f32⟩
  | 10 => ⟨S1x1x128, .f32⟩
  | 11 => ⟨S4x2048x128, .f32⟩
  | 12 => ⟨S4x2048x128, .f32⟩
  | 13 => ⟨S2048x128, .f32⟩
  | 14 => ⟨S4x2048x128, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S4x2048x128, .f32⟩
  | 22 => ⟨S4x2048x128, .f32⟩
  | 23 => ⟨S4x2048x128, .f32⟩
  | 24 => ⟨S_, .f32⟩
  | 25 => ⟨S4x2048, .f32⟩
  | 26 => ⟨S4x2048x1, .f32⟩
  | 27 => ⟨S_, .f32⟩
  | 28 => ⟨S4x2048x1, .f32⟩
  | 29 => ⟨S4x2048x1, .f32⟩
  | 30 => ⟨S4x2048x128, .f32⟩
  | 31 => ⟨S4x2048x128, .f32⟩
  | 32 => ⟨S_, .f32⟩
  | 33 => ⟨S4x2048x1, .f32⟩
  | 34 => ⟨S4x2048x1, .f32⟩
  | 35 => ⟨S4x2048x1, .f32⟩
  | 36 => ⟨S4x2048x128, .f32⟩
  | 37 => ⟨S4x2048x128, .f32⟩
  | 38 => ⟨S1x1x128, .f32⟩
  | 39 => ⟨S4x2048x128, .f32⟩
  | 40 => ⟨S4x2048x128, .f32⟩
  | 41 => ⟨S1x1x128, .f32⟩
  | 42 => ⟨S4x2048x128, .f32⟩
  | 43 => ⟨S4x2048x128, .f32⟩
  | 44 => ⟨S4x2048x2048, .f32⟩
  | 45 => ⟨S_, .f32⟩
  | 46 => ⟨S_, .f32⟩
  | 47 => ⟨S_, .f32⟩
  | 48 => ⟨S4x2048x2048, .f32⟩
  | 49 => ⟨S4x2048x2048, .f32⟩
  | 50 => ⟨S_, .f32⟩
  | 51 => ⟨S4x2048x2048, .f32⟩
  | 52 => ⟨S4x2048x2048, .f32⟩
  | 53 => ⟨S4x2048x2048, .f32⟩
  | 54 => ⟨S4x2048x2048, .f32⟩
  | 55 => ⟨S_, .f32⟩
  | 56 => ⟨S4x2048x2048, .f32⟩
  | 57 => ⟨S4x2048x2048, .f32⟩
  | 58 => ⟨S_, .f32⟩
  | 59 => ⟨S4x2048x2048, .f32⟩
  | 60 => ⟨S4x2048x2048, .f32⟩
  | 61 => ⟨S4x2048x2048, .f32⟩
  | 62 => ⟨S4x2048x128, .f32⟩
  | 63 => ⟨S128x2048, .f32⟩
  | 64 => ⟨S4x2048x2048, .f32⟩
  | 65 => ⟨S_, .f32⟩
  | 66 => ⟨S4x2048x2048, .f32⟩
  | 67 => ⟨S4x2048x2048, .f32⟩
  | 68 => ⟨S4x2048x2048, .f32⟩
  | 69 => ⟨S2048x1024, .f32⟩
  | 70 => ⟨S4x2048x1024, .f32⟩
  | 71 => ⟨S1024x128, .f32⟩
  | 72 => ⟨S4x2048x128, .f32⟩
  | 73 => ⟨S_, .f32⟩
  | 74 => ⟨S4x2048x1024, .f32⟩
  | 75 => ⟨S4x2048x1, .f32⟩
  | 76 => ⟨S4x2048, .f32⟩
  | 77 => ⟨S_, .f32⟩
  | 78 => ⟨S4x2048, .f32⟩
  | 79 => ⟨S4x2048, .i1⟩
  | 80 => ⟨S4x2048, .f32⟩
  | 81 => ⟨S4x2048x1, .f32⟩
  | 82 => ⟨S1x128x128, .f32⟩
  | 83 => ⟨S128x128, .f32⟩
  | 84 => ⟨S128x128, .f32⟩
  | 85 => ⟨S4x2048x128, .f32⟩
  | 86 => ⟨S1x128, .f32⟩
  | 87 => ⟨S128, .f32⟩
  | 88 => ⟨S1x128, .f32⟩
  | 89 => ⟨S128, .f32⟩
  | 90 => ⟨S_, .f32⟩
  | 91 => ⟨S4x2048, .f32⟩
  | 92 => ⟨S4x2048x1, .f32⟩
  | 93 => ⟨S_, .f32⟩
  | 94 => ⟨S4x2048x1, .f32⟩
  | 95 => ⟨S4x2048x1, .f32⟩
  | 96 => ⟨S4x2048x128, .f32⟩
  | 97 => ⟨S4x2048x128, .f32⟩
  | 98 => ⟨S4x2048x128, .f32⟩
  | 99 => ⟨S_, .f32⟩
  | 100 => ⟨S4x2048, .f32⟩
  | 101 => ⟨S4x2048x1, .f32⟩
  | 102 => ⟨S_, .f32⟩
  | 103 => ⟨S4x2048x1, .f32⟩
  | 104 => ⟨S4x2048x1, .f32⟩
  | 105 => ⟨S4x2048x128, .f32⟩
  | 106 => ⟨S4x2048x128, .f32⟩
  | 107 => ⟨S_, .f32⟩
  | 108 => ⟨S4x2048x1, .f32⟩
  | 109 => ⟨S4x2048x1, .f32⟩
  | 110 => ⟨S4x2048x1, .f32⟩
  | 111 => ⟨S4x2048x128, .f32⟩
  | 112 => ⟨S4x2048x128, .f32⟩
  | 113 => ⟨S1x1x128, .f32⟩
  | 114 => ⟨S4x2048x128, .f32⟩
  | 115 => ⟨S4x2048x128, .f32⟩
  | 116 => ⟨S1x1x128, .f32⟩
  | 117 => ⟨S4x2048x128, .f32⟩
  | 118 => ⟨S4x2048x128, .f32⟩
  | 119 => ⟨S128x2048, .f32⟩
  | 120 => ⟨S4x2048x2048, .f32⟩
  | 121 => ⟨S2048x1024, .f32⟩
  | 122 => ⟨S4x2048x1024, .f32⟩
  | 123 => ⟨S_, .f32⟩
  | 124 => ⟨S4x2048x1024, .f32⟩
  | 125 => ⟨S4x2048x1024, .f32⟩
  | 126 => ⟨S4x2048x1024, .f32⟩
  | 127 => ⟨S4x2048x1024, .f32⟩
  | _ => ⟨S4x2048x1024, .f32⟩

abbrev hbmTy0_2 (i : Nat) : BufTy := match i % 128 with
  | 0 => ⟨S4x2048x1024, .f32⟩
  | 1 => ⟨S4x2048x1, .f32⟩
  | 2 => ⟨S4x2048x1024, .f32⟩
  | 3 => ⟨S4x2048x1024, .f32⟩
  | 4 => ⟨S4x2048x1024, .f32⟩
  | 5 => ⟨S4x2048x1, .f32⟩
  | 6 => ⟨S4x2048, .f32⟩
  | 7 => ⟨S_, .f32⟩
  | 8 => ⟨S4x2048, .f32⟩
  | 9 => ⟨S4x2048, .i1⟩
  | 10 => ⟨S4x2048, .f32⟩
  | 11 => ⟨S4x2048x1, .f32⟩
  | 12 => ⟨S1x128x128, .f32⟩
  | 13 => ⟨S128x128, .f32⟩
  | 14 => ⟨S128x128, .f32⟩
  | 15 => ⟨S4x2048x128, .f32⟩
  | 16 => ⟨S1x128, .f32⟩
  | 17 => ⟨S128, .f32⟩
  | 18 => ⟨S1x128, .f32⟩
  | 19 => ⟨S128, .f32⟩
  | 20 => ⟨S_, .f32⟩
  | 21 => ⟨S4x2048, .f32⟩
  | 22 => ⟨S4x2048x1, .f32⟩
  | 23 => ⟨S_, .f32⟩
  | 24 => ⟨S4x2048x1, .f32⟩
  | 25 => ⟨S4x2048x1, .f32⟩
  | 26 => ⟨S4x2048x128, .f32⟩
  | 27 => ⟨S4x2048x128, .f32⟩
  | 28 => ⟨S4x2048x128, .f32⟩
  | 29 => ⟨S_, .f32⟩
  | 30 => ⟨S4x2048, .f32⟩
  | 31 => ⟨S4x2048x1, .f32⟩
  | 32 => ⟨S_, .f32⟩
  | 33 => ⟨S4x2048x1, .f32⟩
  | 34 => ⟨S4x2048x1, .f32⟩
  | 35 => ⟨S4x2048x128, .f32⟩
  | 36 => ⟨S4x2048x128, .f32⟩
  | 37 => ⟨S_, .f32⟩
  | 38 => ⟨S4x2048x1, .f32⟩
  | 39 => ⟨S4x2048x1, .f32⟩
  | 40 => ⟨S4x2048x1, .f32⟩
  | 41 => ⟨S4x2048x128, .f32⟩
  | 42 => ⟨S4x2048x128, .f32⟩
  | 43 => ⟨S1x1x128, .f32⟩
  | 44 => ⟨S4x2048x128, .f32⟩
  | 45 => ⟨S4x2048x128, .f32⟩
  | 46 => ⟨S1x1x128, .f32⟩
  | 47 => ⟨S4x2048x128, .f32⟩
  | 48 => ⟨S4x2048x128, .f32⟩
  | 49 => ⟨S128x2048, .f32⟩
  | 50 => ⟨S4x2048x2048, .f32⟩
  | 51 => ⟨S2048x1024, .f32⟩
  | 52 => ⟨S4x2048x1024, .f32⟩
  | 53 => ⟨S_, .f32⟩
  | 54 => ⟨S4x2048x1024, .f32⟩
  | 55 => ⟨S4x2048x1024, .f32⟩
  | 56 => ⟨S4x2048x1024, .f32⟩
  | 57 => ⟨S4x2048x1024, .f32⟩
  | 58 => ⟨S4x2048x1024, .f32⟩
  | 59 => ⟨S4x2048x1, .f32⟩
  | 60 => ⟨S4x2048x1024, .f32⟩
  | 61 => ⟨S4x2048x1024, .f32⟩
  | 62 => ⟨S4x2048x1024, .f32⟩
  | 63 => ⟨S4x2048x1, .f32⟩
  | 64 => ⟨S4x2048, .f32⟩
  | 65 => ⟨S_, .f32⟩
  | 66 => ⟨S4x2048, .f32⟩
  | 67 => ⟨S4x2048, .i1⟩
  | 68 => ⟨S4x2048, .f32⟩
  | 69 => ⟨S4x2048x1, .f32⟩
  | 70 => ⟨S1x128x128, .f32⟩
  | 71 => ⟨S128x128, .f32⟩
  | 72 => ⟨S128x128, .f32⟩
  | 73 => ⟨S4x2048x128, .f32⟩
  | 74 => ⟨S1x128, .f32⟩
  | 75 => ⟨S128, .f32⟩
  | 76 => ⟨S1x128, .f32⟩
  | 77 => ⟨S128, .f32⟩
  | 78 => ⟨S_, .f32⟩
  | 79 => ⟨S4x2048, .f32⟩
  | 80 => ⟨S4x2048x1, .f32⟩
  | 81 => ⟨S_, .f32⟩
  | 82 => ⟨S4x2048x1, .f32⟩
  | 83 => ⟨S4x2048x1, .f32⟩
  | 84 => ⟨S4x2048x128, .f32⟩
  | 85 => ⟨S4x2048x128, .f32⟩
  | 86 => ⟨S4x2048x128, .f32⟩
  | 87 => ⟨S_, .f32⟩
  | 88 => ⟨S4x2048, .f32⟩
  | 89 => ⟨S4x2048x1, .f32⟩
  | 90 => ⟨S_, .f32⟩
  | 91 => ⟨S4x2048x1, .f32⟩
  | 92 => ⟨S4x2048x1, .f32⟩
  | 93 => ⟨S4x2048x128, .f32⟩
  | 94 => ⟨S4x2048x128, .f32⟩
  | 95 => ⟨S_, .f32⟩
  | 96 => ⟨S4x2048x1, .f32⟩
  | 97 => ⟨S4x2048x1, .f32⟩
  | 98 => ⟨S4x2048x1, .f32⟩
  | 99 => ⟨S4x2048x128, .f32⟩
  | 100 => ⟨S4x2048x128, .f32⟩
  | 101 => ⟨S1x1x128, .f32⟩
  | 102 => ⟨S4x2048x128, .f32⟩
  | 103 => ⟨S4x2048x128, .f32⟩
  | 104 => ⟨S1x1x128, .f32⟩
  | 105 => ⟨S4x2048x128, .f32⟩
  | 106 => ⟨S4x2048x128, .f32⟩
  | 107 => ⟨S128x2048, .f32⟩
  | 108 => ⟨S4x2048x2048, .f32⟩
  | 109 => ⟨S2048x1024, .f32⟩
  | 110 => ⟨S4x2048x1024, .f32⟩
  | 111 => ⟨S_, .f32⟩
  | 112 => ⟨S4x2048x1024, .f32⟩
  | 113 => ⟨S4x2048x1024, .f32⟩
  | 114 => ⟨S4x2048x1024, .f32⟩
  | 115 => ⟨S4x2048x1024, .f32⟩
  | 116 => ⟨S4x2048x1024, .f32⟩
  | 117 => ⟨S4x2048x1, .f32⟩
  | 118 => ⟨S4x2048x1024, .f32⟩
  | 119 => ⟨S4x2048x1024, .f32⟩
  | 120 => ⟨S4x2048x1024, .f32⟩
  | 121 => ⟨S4x2048x1, .f32⟩
  | 122 => ⟨S4x2048, .f32⟩
  | 123 => ⟨S_, .f32⟩
  | 124 => ⟨S4x2048, .f32⟩
  | 125 => ⟨S4x2048, .i1⟩
  | 126 => ⟨S4x2048, .f32⟩
  | 127 => ⟨S4x2048x1, .f32⟩
  | _ => ⟨S4x2048x1024, .f32⟩

abbrev hbmTy0_3 (i : Nat) : BufTy := match i % 128 with
  | 0 => ⟨S1x128x128, .f32⟩
  | 1 => ⟨S128x128, .f32⟩
  | 2 => ⟨S128x128, .f32⟩
  | 3 => ⟨S4x2048x128, .f32⟩
  | 4 => ⟨S1x128, .f32⟩
  | 5 => ⟨S128, .f32⟩
  | 6 => ⟨S1x128, .f32⟩
  | 7 => ⟨S128, .f32⟩
  | 8 => ⟨S_, .f32⟩
  | 9 => ⟨S4x2048, .f32⟩
  | 10 => ⟨S4x2048x1, .f32⟩
  | 11 => ⟨S_, .f32⟩
  | 12 => ⟨S4x2048x1, .f32⟩
  | 13 => ⟨S4x2048x1, .f32⟩
  | 14 => ⟨S4x2048x128, .f32⟩
  | 15 => ⟨S4x2048x128, .f32⟩
  | 16 => ⟨S4x2048x128, .f32⟩
  | 17 => ⟨S_, .f32⟩
  | 18 => ⟨S4x2048, .f32⟩
  | 19 => ⟨S4x2048x1, .f32⟩
  | 20 => ⟨S_, .f32⟩
  | 21 => ⟨S4x2048x1, .f32⟩
  | 22 => ⟨S4x2048x1, .f32⟩
  | 23 => ⟨S4x2048x128, .f32⟩
  | 24 => ⟨S4x2048x128, .f32⟩
  | 25 => ⟨S_, .f32⟩
  | 26 => ⟨S4x2048x1, .f32⟩
  | 27 => ⟨S4x2048x1, .f32⟩
  | 28 => ⟨S4x2048x1, .f32⟩
  | 29 => ⟨S4x2048x128, .f32⟩
  | 30 => ⟨S4x2048x128, .f32⟩
  | 31 => ⟨S1x1x128, .f32⟩
  | 32 => ⟨S4x2048x128, .f32⟩
  | 33 => ⟨S4x2048x128, .f32⟩
  | 34 => ⟨S1x1x128, .f32⟩
  | 35 => ⟨S4x2048x128, .f32⟩
  | 36 => ⟨S4x2048x128, .f32⟩
  | 37 => ⟨S128x2048, .f32⟩
  | 38 => ⟨S4x2048x2048, .f32⟩
  | 39 => ⟨S2048x1024, .f32⟩
  | 40 => ⟨S4x2048x1024, .f32⟩
  | 41 => ⟨S_, .f32⟩
  | 42 => ⟨S4x2048x1024, .f32⟩
  | 43 => ⟨S4x2048x1024, .f32⟩
  | 44 => ⟨S4x2048x1024, .f32⟩
  | 45 => ⟨S4x2048x1024, .f32⟩
  | 46 => ⟨S4x2048x1024, .f32⟩
  | 47 => ⟨S4x2048x1, .f32⟩
  | 48 => ⟨S4x2048x1024, .f32⟩
  | 49 => ⟨S4x2048x1024, .f32⟩
  | 50 => ⟨S4x2048x1024, .f32⟩
  | 51 => ⟨S4x2048x1, .f32⟩
  | 52 => ⟨S4x2048, .f32⟩
  | 53 => ⟨S_, .f32⟩
  | 54 => ⟨S4x2048, .f32⟩
  | 55 => ⟨S4x2048, .i1⟩
  | 56 => ⟨S4x2048, .f32⟩
  | 57 => ⟨S4x2048x1, .f32⟩
  | 58 => ⟨S1x128x128, .f32⟩
  | 59 => ⟨S128x128, .f32⟩
  | 60 => ⟨S128x128, .f32⟩
  | 61 => ⟨S4x2048x128, .f32⟩
  | 62 => ⟨S1x128, .f32⟩
  | 63 => ⟨S128, .f32⟩
  | 64 => ⟨S1x128, .f32⟩
  | 65 => ⟨S128, .f32⟩
  | 66 => ⟨S_, .f32⟩
  | 67 => ⟨S4x2048, .f32⟩
  | 68 => ⟨S4x2048x1, .f32⟩
  | 69 => ⟨S_, .f32⟩
  | 70 => ⟨S4x2048x1, .f32⟩
  | 71 => ⟨S4x2048x1, .f32⟩
  | 72 => ⟨S4x2048x128, .f32⟩
  | 73 => ⟨S4x2048x128, .f32⟩
  | 74 => ⟨S4x2048x128, .f32⟩
  | 75 => ⟨S_, .f32⟩
  | 76 => ⟨S4x2048, .f32⟩
  | 77 => ⟨S4x2048x1, .f32⟩
  | 78 => ⟨S_, .f32⟩
  | 79 => ⟨S4x2048x1, .f32⟩
  | 80 => ⟨S4x2048x1, .f32⟩
  | 81 => ⟨S4x2048x128, .f32⟩
  | 82 => ⟨S4x2048x128, .f32⟩
  | 83 => ⟨S_, .f32⟩
  | 84 => ⟨S4x2048x1, .f32⟩
  | 85 => ⟨S4x2048x1, .f32⟩
  | 86 => ⟨S4x2048x1, .f32⟩
  | 87 => ⟨S4x2048x128, .f32⟩
  | 88 => ⟨S4x2048x128, .f32⟩
  | 89 => ⟨S1x1x128, .f32⟩
  | 90 => ⟨S4x2048x128, .f32⟩
  | 91 => ⟨S4x2048x128, .f32⟩
  | 92 => ⟨S1x1x128, .f32⟩
  | 93 => ⟨S4x2048x128, .f32⟩
  | 94 => ⟨S4x2048x128, .f32⟩
  | 95 => ⟨S128x2048, .f32⟩
  | 96 => ⟨S4x2048x2048, .f32⟩
  | 97 => ⟨S2048x1024, .f32⟩
  | 98 => ⟨S4x2048x1024, .f32⟩
  | 99 => ⟨S_, .f32⟩
  | 100 => ⟨S4x2048x1024, .f32⟩
  | 101 => ⟨S4x2048x1024, .f32⟩
  | 102 => ⟨S4x2048x1024, .f32⟩
  | 103 => ⟨S4x2048x1024, .f32⟩
  | 104 => ⟨S4x2048x1024, .f32⟩
  | 105 => ⟨S4x2048x1, .f32⟩
  | 106 => ⟨S4x2048x1024, .f32⟩
  | 107 => ⟨S4x2048x1024, .f32⟩
  | 108 => ⟨S4x2048x1024, .f32⟩
  | 109 => ⟨S4x2048x1, .f32⟩
  | 110 => ⟨S4x2048, .f32⟩
  | 111 => ⟨S_, .f32⟩
  | 112 => ⟨S4x2048, .f32⟩
  | 113 => ⟨S4x2048, .i1⟩
  | 114 => ⟨S4x2048, .f32⟩
  | 115 => ⟨S4x2048x1, .f32⟩
  | 116 => ⟨S1x128x128, .f32⟩
  | 117 => ⟨S128x128, .f32⟩
  | 118 => ⟨S128x128, .f32⟩
  | 119 => ⟨S4x2048x128, .f32⟩
  | 120 => ⟨S1x128, .f32⟩
  | 121 => ⟨S128, .f32⟩
  | 122 => ⟨S1x128, .f32⟩
  | 123 => ⟨S128, .f32⟩
  | 124 => ⟨S_, .f32⟩
  | 125 => ⟨S4x2048, .f32⟩
  | 126 => ⟨S4x2048x1, .f32⟩
  | 127 => ⟨S_, .f32⟩
  | _ => ⟨S4x2048x1024, .f32⟩

abbrev hbmTy0_4 (i : Nat) : BufTy := match i % 128 with
  | 0 => ⟨S4x2048x1, .f32⟩
  | 1 => ⟨S4x2048x1, .f32⟩
  | 2 => ⟨S4x2048x128, .f32⟩
  | 3 => ⟨S4x2048x128, .f32⟩
  | 4 => ⟨S4x2048x128, .f32⟩
  | 5 => ⟨S_, .f32⟩
  | 6 => ⟨S4x2048, .f32⟩
  | 7 => ⟨S4x2048x1, .f32⟩
  | 8 => ⟨S_, .f32⟩
  | 9 => ⟨S4x2048x1, .f32⟩
  | 10 => ⟨S4x2048x1, .f32⟩
  | 11 => ⟨S4x2048x128, .f32⟩
  | 12 => ⟨S4x2048x128, .f32⟩
  | 13 => ⟨S_, .f32⟩
  | 14 => ⟨S4x2048x1, .f32⟩
  | 15 => ⟨S4x2048x1, .f32⟩
  | 16 => ⟨S4x2048x1, .f32⟩
  | 17 => ⟨S4x2048x128, .f32⟩
  | 18 => ⟨S4x2048x128, .f32⟩
  | 19 => ⟨S1x1x128, .f32⟩
  | 20 => ⟨S4x2048x128, .f32⟩
  | 21 => ⟨S4x2048x128, .f32⟩
  | 22 => ⟨S1x1x128, .f32⟩
  | 23 => ⟨S4x2048x128, .f32⟩
  | 24 => ⟨S4x2048x128, .f32⟩
  | 25 => ⟨S128x2048, .f32⟩
  | 26 => ⟨S4x2048x2048, .f32⟩
  | 27 => ⟨S2048x1024, .f32⟩
  | 28 => ⟨S4x2048x1024, .f32⟩
  | 29 => ⟨S_, .f32⟩
  | 30 => ⟨S4x2048x1024, .f32⟩
  | 31 => ⟨S4x2048x1024, .f32⟩
  | 32 => ⟨S4x2048x1024, .f32⟩
  | 33 => ⟨S4x2048x1024, .f32⟩
  | 34 => ⟨S4x2048x1024, .f32⟩
  | 35 => ⟨S4x2048x1, .f32⟩
  | 36 => ⟨S4x2048x1024, .f32⟩
  | 37 => ⟨S4x2048x1024, .f32⟩
  | 38 => ⟨S4x2048x1024, .f32⟩
  | 39 => ⟨S4x2048x1, .f32⟩
  | 40 => ⟨S4x2048, .f32⟩
  | 41 => ⟨S_, .f32⟩
  | 42 => ⟨S4x2048, .f32⟩
  | 43 => ⟨S4x2048, .i1⟩
  | 44 => ⟨S4x2048, .f32⟩
  | 45 => ⟨S4x2048x1, .f32⟩
  | 46 => ⟨S1x128x128, .f32⟩
  | 47 => ⟨S128x128, .f32⟩
  | 48 => ⟨S128x128, .f32⟩
  | 49 => ⟨S4x2048x128, .f32⟩
  | 50 => ⟨S1x128, .f32⟩
  | 51 => ⟨S128, .f32⟩
  | 52 => ⟨S1x128, .f32⟩
  | 53 => ⟨S128, .f32⟩
  | 54 => ⟨S_, .f32⟩
  | 55 => ⟨S4x2048, .f32⟩
  | 56 => ⟨S4x2048x1, .f32⟩
  | 57 => ⟨S_, .f32⟩
  | 58 => ⟨S4x2048x1, .f32⟩
  | 59 => ⟨S4x2048x1, .f32⟩
  | 60 => ⟨S4x2048x128, .f32⟩
  | 61 => ⟨S4x2048x128, .f32⟩
  | 62 => ⟨S4x2048x128, .f32⟩
  | 63 => ⟨S_, .f32⟩
  | 64 => ⟨S4x2048, .f32⟩
  | 65 => ⟨S4x2048x1, .f32⟩
  | 66 => ⟨S_, .f32⟩
  | 67 => ⟨S4x2048x1, .f32⟩
  | 68 => ⟨S4x2048x1, .f32⟩
  | 69 => ⟨S4x2048x128, .f32⟩
  | 70 => ⟨S4x2048x128, .f32⟩
  | 71 => ⟨S_, .f32⟩
  | 72 => ⟨S4x2048x1, .f32⟩
  | 73 => ⟨S4x2048x1, .f32⟩
  | 74 => ⟨S4x2048x1, .f32⟩
  | 75 => ⟨S4x2048x128, .f32⟩
  | 76 => ⟨S4x2048x128, .f32⟩
  | 77 => ⟨S1x1x128, .f32⟩
  | 78 => ⟨S4x2048x128, .f32⟩
  | 79 => ⟨S4x2048x128, .f32⟩
  | 80 => ⟨S1x1x128, .f32⟩
  | 81 => ⟨S4x2048x128, .f32⟩
  | 82 => ⟨S4x2048x128, .f32⟩
  | 83 => ⟨S128x2048, .f32⟩
  | 84 => ⟨S4x2048x2048, .f32⟩
  | 85 => ⟨S2048x1024, .f32⟩
  | 86 => ⟨S4x2048x1024, .f32⟩
  | 87 => ⟨S_, .f32⟩
  | 88 => ⟨S4x2048x1024, .f32⟩
  | 89 => ⟨S4x2048x1024, .f32⟩
  | 90 => ⟨S4x2048x1024, .f32⟩
  | 91 => ⟨S4x2048x1024, .f32⟩
  | 92 => ⟨S4x2048x1024, .f32⟩
  | 93 => ⟨S4x2048x1, .f32⟩
  | 94 => ⟨S4x2048x1024, .f32⟩
  | 95 => ⟨S4x2048x1024, .f32⟩
  | 96 => ⟨S4x2048x1024, .f32⟩
  | 97 => ⟨S4x2048x1, .f32⟩
  | 98 => ⟨S4x2048, .f32⟩
  | 99 => ⟨S_, .f32⟩
  | 100 => ⟨S4x2048, .f32⟩
  | 101 => ⟨S4x2048, .i1⟩
  | 102 => ⟨S4x2048, .f32⟩
  | 103 => ⟨S4x2048x1, .f32⟩
  | 104 => ⟨S1x128x128, .f32⟩
  | 105 => ⟨S128x128, .f32⟩
  | 106 => ⟨S128x128, .f32⟩
  | 107 => ⟨S4x2048x128, .f32⟩
  | 108 => ⟨S1x128, .f32⟩
  | 109 => ⟨S128, .f32⟩
  | 110 => ⟨S1x128, .f32⟩
  | 111 => ⟨S128, .f32⟩
  | 112 => ⟨S_, .f32⟩
  | 113 => ⟨S4x2048, .f32⟩
  | 114 => ⟨S4x2048x1, .f32⟩
  | 115 => ⟨S_, .f32⟩
  | 116 => ⟨S4x2048x1, .f32⟩
  | 117 => ⟨S4x2048x1, .f32⟩
  | 118 => ⟨S4x2048x128, .f32⟩
  | 119 => ⟨S4x2048x128, .f32⟩
  | 120 => ⟨S4x2048x128, .f32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S4x2048x128, .f32⟩
  | _ => ⟨S4x2048x1024, .f32⟩

abbrev hbmTy0_5 (i : Nat) : BufTy := match i % 128 with
  | 0 => ⟨S4x2048x128, .f32⟩
  | 1 => ⟨S_, .f32⟩
  | 2 => ⟨S4x2048x1, .f32⟩
  | 3 => ⟨S4x2048x1, .f32⟩
  | 4 => ⟨S4x2048x1, .f32⟩
  | 5 => ⟨S4x2048x128, .f32⟩
  | 6 => ⟨S4x2048x128, .f32⟩
  | 7 => ⟨S1x1x128, .f32⟩
  | 8 => ⟨S4x2048x128, .f32⟩
  | 9 => ⟨S4x2048x128, .f32⟩
  | 10 => ⟨S1x1x128, .f32⟩
  | 11 => ⟨S4x2048x128, .f32⟩
  | 12 => ⟨S4x2048x128, .f32⟩
  | 13 => ⟨S128x2048, .f32⟩
  | 14 => ⟨S4x2048x2048, .f32⟩
  | 15 => ⟨S2048x1024, .f32⟩
  | 16 => ⟨S4x2048x1024, .f32⟩
  | 17 => ⟨S_, .f32⟩
  | 18 => ⟨S4x2048x1024, .f32⟩
  | 19 => ⟨S4x2048x1024, .f32⟩
  | 20 => ⟨S4x2048x1024, .f32⟩
  | 21 => ⟨S4x2048x1024, .f32⟩
  | 22 => ⟨S4x2048x1024, .f32⟩
  | 23 => ⟨S4x2048x1, .f32⟩
  | 24 => ⟨S4x2048x1024, .f32⟩
  | 25 => ⟨S4x2048x1024, .f32⟩
  | 26 => ⟨S4x2048x1024, .f32⟩
  | _ => ⟨S4x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_values : Ref sig .tc := ⟨.hbm, 33, rfl⟩
abbrev main_indices : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_values_5 : Ref sig .tc := ⟨.hbm, 53, rfl⟩
abbrev main_indices_6 : Ref sig .tc := ⟨.hbm, 54, rfl⟩
abbrev main_v29 : Ref sig .tc := ⟨.hbm, 55, rfl⟩
abbrev main_c : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_10 : Ref sig .tc := ⟨.hbm, 76, rfl⟩
abbrev main_v46 : Ref sig .tc := ⟨.hbm, 77, rfl⟩
abbrev main_v47 : Ref sig .tc := ⟨.hbm, 78, rfl⟩
abbrev main_c_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_12 : Ref sig .tc := ⟨.hbm, 83, rfl⟩
abbrev main_v51 : Ref sig .tc := ⟨.hbm, 84, rfl⟩
abbrev main_v52 : Ref sig .tc := ⟨.hbm, 85, rfl⟩
abbrev main_c_13 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_call0_v0 : Ref sig .tc := ⟨.hbm, 100, rfl⟩
abbrev main_call0_v1 : Ref sig .tc := ⟨.hbm, 101, rfl⟩
abbrev main_call0_cst : Ref sig .tc := ⟨.hbm, 102, rfl⟩
abbrev main_call0_v2 : Ref sig .tc := ⟨.hbm, 103, rfl⟩
abbrev main_call0_v3 : Ref sig .tc := ⟨.hbm, 104, rfl⟩
abbrev main_call0_cst_0 : Ref sig .tc := ⟨.hbm, 105, rfl⟩
abbrev main_call0_v4 : Ref sig .tc := ⟨.hbm, 106, rfl⟩
abbrev main_call0_v5 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_14 : Ref sig .tc := ⟨.hbm, 112, rfl⟩
abbrev main_v70 : Ref sig .tc := ⟨.hbm, 113, rfl⟩
abbrev main_v71 : Ref sig .tc := ⟨.hbm, 114, rfl⟩
abbrev main_cst_15 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_16 : Ref sig .tc := ⟨.hbm, 121, rfl⟩
abbrev main_v77 : Ref sig .tc := ⟨.hbm, 122, rfl⟩
abbrev main_v78 : Ref sig .tc := ⟨.hbm, 123, rfl⟩
abbrev main_cst_17 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_18 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_19 : Ref sig .tc := ⟨.hbm, 143, rfl⟩
abbrev main_v96 : Ref sig .tc := ⟨.hbm, 144, rfl⟩
abbrev main_v97 : Ref sig .tc := ⟨.hbm, 145, rfl⟩
abbrev main_cst_20 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_21 : Ref sig .tc := ⟨.hbm, 152, rfl⟩
abbrev main_v103 : Ref sig .tc := ⟨.hbm, 153, rfl⟩
abbrev main_v104 : Ref sig .tc := ⟨.hbm, 154, rfl⟩
abbrev main_cst_22 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_23 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_24 : Ref sig .tc := ⟨.hbm, 173, rfl⟩
abbrev main_cst_25 : Ref sig .tc := ⟨.hbm, 174, rfl⟩
abbrev main_call1_v0 : Ref sig .tc := ⟨.hbm, 175, rfl⟩
abbrev main_call1_v1 : Ref sig .tc := ⟨.hbm, 176, rfl⟩
abbrev main_call1_v2 : Ref sig .tc := ⟨.hbm, 177, rfl⟩
abbrev main_call1_v3 : Ref sig .tc := ⟨.hbm, 178, rfl⟩
abbrev main_call1_v4 : Ref sig .tc := ⟨.hbm, 179, rfl⟩
abbrev main_v121 : Ref sig .tc := ⟨.hbm, 180, rfl⟩
abbrev main_call2_v0 : Ref sig .tc := ⟨.hbm, 181, rfl⟩
abbrev main_call2_v1 : Ref sig .tc := ⟨.hbm, 182, rfl⟩
abbrev main_call2_cst : Ref sig .tc := ⟨.hbm, 183, rfl⟩
abbrev main_call2_v2 : Ref sig .tc := ⟨.hbm, 184, rfl⟩
abbrev main_call2_v3 : Ref sig .tc := ⟨.hbm, 185, rfl⟩
abbrev main_call2_cst_0 : Ref sig .tc := ⟨.hbm, 186, rfl⟩
abbrev main_call2_v4 : Ref sig .tc := ⟨.hbm, 187, rfl⟩
abbrev main_call2_v5 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_26 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_27 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_cst_28 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_cst_29 : Ref sig .tc := ⟨.hbm, 218, rfl⟩
abbrev main_v148 : Ref sig .tc := ⟨.hbm, 219, rfl⟩
abbrev main_v149 : Ref sig .tc := ⟨.hbm, 220, rfl⟩
abbrev main_cst_30 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_cst_31 : Ref sig .tc := ⟨.hbm, 227, rfl⟩
abbrev main_v155 : Ref sig .tc := ⟨.hbm, 228, rfl⟩
abbrev main_v156 : Ref sig .tc := ⟨.hbm, 229, rfl⟩
abbrev main_cst_32 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_cst_33 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_cst_34 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_cst_35 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_cst_36 : Ref sig .tc := ⟨.hbm, 276, rfl⟩
abbrev main_v199 : Ref sig .tc := ⟨.hbm, 277, rfl⟩
abbrev main_v200 : Ref sig .tc := ⟨.hbm, 278, rfl⟩
abbrev main_cst_37 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_cst_38 : Ref sig .tc := ⟨.hbm, 285, rfl⟩
abbrev main_v206 : Ref sig .tc := ⟨.hbm, 286, rfl⟩
abbrev main_v207 : Ref sig .tc := ⟨.hbm, 287, rfl⟩
abbrev main_cst_39 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_cst_40 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_cst_41 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_cst_42 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_cst_43 : Ref sig .tc := ⟨.hbm, 334, rfl⟩
abbrev main_v250 : Ref sig .tc := ⟨.hbm, 335, rfl⟩
abbrev main_v251 : Ref sig .tc := ⟨.hbm, 336, rfl⟩
abbrev main_cst_44 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_cst_45 : Ref sig .tc := ⟨.hbm, 343, rfl⟩
abbrev main_v257 : Ref sig .tc := ⟨.hbm, 344, rfl⟩
abbrev main_v258 : Ref sig .tc := ⟨.hbm, 345, rfl⟩
abbrev main_cst_46 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_cst_47 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_cst_48 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_cst_49 : Ref sig .tc := ⟨.hbm, 379, rfl⟩
abbrev main_v289 : Ref sig .tc := ⟨.hbm, 380, rfl⟩
abbrev main_v290 : Ref sig .tc := ⟨.hbm, 381, rfl⟩
abbrev main_v291 : Ref sig .tc := ⟨.hbm, 382, rfl⟩
abbrev main_v292 : Ref sig .tc := ⟨.hbm, 383, rfl⟩
abbrev main_v293 : Ref sig .tc := ⟨.hbm, 384, rfl⟩
abbrev main_v294 : Ref sig .tc := ⟨.hbm, 385, rfl⟩
abbrev main_v295 : Ref sig .tc := ⟨.hbm, 386, rfl⟩
abbrev main_v296 : Ref sig .tc := ⟨.hbm, 387, rfl⟩
abbrev main_v297 : Ref sig .tc := ⟨.hbm, 388, rfl⟩
abbrev main_v298 : Ref sig .tc := ⟨.hbm, 389, rfl⟩
abbrev main_v299 : Ref sig .tc := ⟨.hbm, 390, rfl⟩
abbrev main_v300 : Ref sig .tc := ⟨.hbm, 391, rfl⟩
abbrev main_cst_50 : Ref sig .tc := ⟨.hbm, 392, rfl⟩
abbrev main_v301 : Ref sig .tc := ⟨.hbm, 393, rfl⟩
abbrev main_v302 : Ref sig .tc := ⟨.hbm, 394, rfl⟩
abbrev main_cst_51 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_cst_52 : Ref sig .tc := ⟨.hbm, 401, rfl⟩
abbrev main_v308 : Ref sig .tc := ⟨.hbm, 402, rfl⟩
abbrev main_v309 : Ref sig .tc := ⟨.hbm, 403, rfl⟩
abbrev main_cst_53 : Ref sig .tc := ⟨.hbm, 404, rfl⟩
abbrev main_v310 : Ref sig .tc := ⟨.hbm, 405, rfl⟩
abbrev main_v311 : Ref sig .tc := ⟨.hbm, 406, rfl⟩
abbrev main_v312 : Ref sig .tc := ⟨.hbm, 407, rfl⟩
abbrev main_v313 : Ref sig .tc := ⟨.hbm, 408, rfl⟩
abbrev main_cst_54 : Ref sig .tc := ⟨.hbm, 409, rfl⟩
abbrev main_v314 : Ref sig .tc := ⟨.hbm, 410, rfl⟩
abbrev main_v315 : Ref sig .tc := ⟨.hbm, 411, rfl⟩
abbrev main_v316 : Ref sig .tc := ⟨.hbm, 412, rfl⟩
abbrev main_v317 : Ref sig .tc := ⟨.hbm, 413, rfl⟩
abbrev main_v318 : Ref sig .tc := ⟨.hbm, 414, rfl⟩
abbrev main_v319 : Ref sig .tc := ⟨.hbm, 415, rfl⟩
abbrev main_v320 : Ref sig .tc := ⟨.hbm, 416, rfl⟩
abbrev main_v321 : Ref sig .tc := ⟨.hbm, 417, rfl⟩
abbrev main_v322 : Ref sig .tc := ⟨.hbm, 418, rfl⟩
abbrev main_v323 : Ref sig .tc := ⟨.hbm, 419, rfl⟩
abbrev main_v324 : Ref sig .tc := ⟨.hbm, 420, rfl⟩
abbrev main_v325 : Ref sig .tc := ⟨.hbm, 421, rfl⟩
abbrev main_v326 : Ref sig .tc := ⟨.hbm, 422, rfl⟩
abbrev main_v327 : Ref sig .tc := ⟨.hbm, 423, rfl⟩
abbrev main_v328 : Ref sig .tc := ⟨.hbm, 424, rfl⟩
abbrev main_cst_55 : Ref sig .tc := ⟨.hbm, 425, rfl⟩
abbrev main_v329 : Ref sig .tc := ⟨.hbm, 426, rfl⟩
abbrev main_v330 : Ref sig .tc := ⟨.hbm, 427, rfl⟩
abbrev main_v331 : Ref sig .tc := ⟨.hbm, 428, rfl⟩
abbrev main_v332 : Ref sig .tc := ⟨.hbm, 429, rfl⟩
abbrev main_v333 : Ref sig .tc := ⟨.hbm, 430, rfl⟩
abbrev main_v334 : Ref sig .tc := ⟨.hbm, 431, rfl⟩
abbrev main_v335 : Ref sig .tc := ⟨.hbm, 432, rfl⟩
abbrev main_v336 : Ref sig .tc := ⟨.hbm, 433, rfl⟩
abbrev main_v337 : Ref sig .tc := ⟨.hbm, 434, rfl⟩
abbrev main_v338 : Ref sig .tc := ⟨.hbm, 435, rfl⟩
abbrev main_v339 : Ref sig .tc := ⟨.hbm, 436, rfl⟩
abbrev main_cst_56 : Ref sig .tc := ⟨.hbm, 437, rfl⟩
abbrev main_v340 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_v344 : Ref sig .tc := ⟨.hbm, 442, rfl⟩
abbrev main_v345 : Ref sig .tc := ⟨.hbm, 443, rfl⟩
abbrev main_v346 : Ref sig .tc := ⟨.hbm, 444, rfl⟩
abbrev main_v347 : Ref sig .tc := ⟨.hbm, 445, rfl⟩
abbrev main_v348 : Ref sig .tc := ⟨.hbm, 446, rfl⟩
abbrev main_v349 : Ref sig .tc := ⟨.hbm, 447, rfl⟩
abbrev main_v350 : Ref sig .tc := ⟨.hbm, 448, rfl⟩
abbrev main_v351 : Ref sig .tc := ⟨.hbm, 449, rfl⟩
abbrev main_cst_57 : Ref sig .tc := ⟨.hbm, 450, rfl⟩
abbrev main_v352 : Ref sig .tc := ⟨.hbm, 451, rfl⟩
abbrev main_v353 : Ref sig .tc := ⟨.hbm, 452, rfl⟩
abbrev main_cst_58 : Ref sig .tc := ⟨.hbm, 453, rfl⟩
abbrev main_v354 : Ref sig .tc := ⟨.hbm, 454, rfl⟩
abbrev main_v355 : Ref sig .tc := ⟨.hbm, 455, rfl⟩
abbrev main_v356 : Ref sig .tc := ⟨.hbm, 456, rfl⟩
abbrev main_v357 : Ref sig .tc := ⟨.hbm, 457, rfl⟩
abbrev main_v358 : Ref sig .tc := ⟨.hbm, 458, rfl⟩
abbrev main_cst_59 : Ref sig .tc := ⟨.hbm, 459, rfl⟩
abbrev main_v359 : Ref sig .tc := ⟨.hbm, 460, rfl⟩
abbrev main_v360 : Ref sig .tc := ⟨.hbm, 461, rfl⟩
abbrev main_cst_60 : Ref sig .tc := ⟨.hbm, 462, rfl⟩
abbrev main_v361 : Ref sig .tc := ⟨.hbm, 463, rfl⟩
abbrev main_v362 : Ref sig .tc := ⟨.hbm, 464, rfl⟩
abbrev main_v363 : Ref sig .tc := ⟨.hbm, 465, rfl⟩
abbrev main_v364 : Ref sig .tc := ⟨.hbm, 466, rfl⟩
abbrev main_cst_61 : Ref sig .tc := ⟨.hbm, 467, rfl⟩
abbrev main_v365 : Ref sig .tc := ⟨.hbm, 468, rfl⟩
abbrev main_v366 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_v370 : Ref sig .tc := ⟨.hbm, 473, rfl⟩
abbrev main_v371 : Ref sig .tc := ⟨.hbm, 474, rfl⟩
abbrev main_v372 : Ref sig .tc := ⟨.hbm, 475, rfl⟩
abbrev main_v373 : Ref sig .tc := ⟨.hbm, 476, rfl⟩
abbrev main_v374 : Ref sig .tc := ⟨.hbm, 477, rfl⟩
abbrev main_v375 : Ref sig .tc := ⟨.hbm, 478, rfl⟩
abbrev main_v376 : Ref sig .tc := ⟨.hbm, 479, rfl⟩
abbrev main_v377 : Ref sig .tc := ⟨.hbm, 480, rfl⟩
abbrev main_v378 : Ref sig .tc := ⟨.hbm, 481, rfl⟩
abbrev main_v379 : Ref sig .tc := ⟨.hbm, 482, rfl⟩
abbrev main_cst_62 : Ref sig .tc := ⟨.hbm, 483, rfl⟩
abbrev main_v380 : Ref sig .tc := ⟨.hbm, 484, rfl⟩
abbrev main_v381 : Ref sig .tc := ⟨.hbm, 485, rfl⟩
abbrev main_v382 : Ref sig .tc := ⟨.hbm, 486, rfl⟩
abbrev main_v383 : Ref sig .tc := ⟨.hbm, 487, rfl⟩
abbrev main_v384 : Ref sig .tc := ⟨.hbm, 488, rfl⟩
abbrev main_v385 : Ref sig .tc := ⟨.hbm, 489, rfl⟩
abbrev main_v386 : Ref sig .tc := ⟨.hbm, 490, rfl⟩
abbrev main_v387 : Ref sig .tc := ⟨.hbm, 491, rfl⟩
abbrev main_v388 : Ref sig .tc := ⟨.hbm, 492, rfl⟩
abbrev main_v389 : Ref sig .tc := ⟨.hbm, 493, rfl⟩
abbrev main_v390 : Ref sig .tc := ⟨.hbm, 494, rfl⟩
abbrev main_cst_63 : Ref sig .tc := ⟨.hbm, 495, rfl⟩
abbrev main_v391 : Ref sig .tc := ⟨.hbm, 496, rfl⟩
abbrev main_v392 : Ref sig .tc := ⟨.hbm, 497, rfl⟩
abbrev main_v393 : Ref sig .tc := ⟨.hbm, 498, rfl⟩
abbrev main_v394 : Ref sig .tc := ⟨.hbm, 499, rfl⟩
abbrev main_v395 : Ref sig .tc := ⟨.hbm, 500, rfl⟩
abbrev main_v396 : Ref sig .tc := ⟨.hbm, 501, rfl⟩
abbrev main_v397 : Ref sig .tc := ⟨.hbm, 502, rfl⟩
abbrev main_v398 : Ref sig .tc := ⟨.hbm, 503, rfl⟩
abbrev main_v399 : Ref sig .tc := ⟨.hbm, 504, rfl⟩
abbrev main_v400 : Ref sig .tc := ⟨.hbm, 505, rfl⟩
abbrev main_v401 : Ref sig .tc := ⟨.hbm, 506, rfl⟩
abbrev main_v402 : Ref sig .tc := ⟨.hbm, 507, rfl⟩
abbrev main_cst_64 : Ref sig .tc := ⟨.hbm, 508, rfl⟩
abbrev main_v403 : Ref sig .tc := ⟨.hbm, 509, rfl⟩
abbrev main_v404 : Ref sig .tc := ⟨.hbm, 510, rfl⟩
abbrev main_cst_65 : Ref sig .tc := ⟨.hbm, 511, rfl⟩
abbrev main_v405 : Ref sig .tc := ⟨.hbm, 512, rfl⟩
abbrev main_v406 : Ref sig .tc := ⟨.hbm, 513, rfl⟩
abbrev main_v407 : Ref sig .tc := ⟨.hbm, 514, rfl⟩
abbrev main_v408 : Ref sig .tc := ⟨.hbm, 515, rfl⟩
abbrev main_v409 : Ref sig .tc := ⟨.hbm, 516, rfl⟩
abbrev main_cst_66 : Ref sig .tc := ⟨.hbm, 517, rfl⟩
abbrev main_v410 : Ref sig .tc := ⟨.hbm, 518, rfl⟩
abbrev main_v411 : Ref sig .tc := ⟨.hbm, 519, rfl⟩
abbrev main_cst_67 : Ref sig .tc := ⟨.hbm, 520, rfl⟩
abbrev main_v412 : Ref sig .tc := ⟨.hbm, 521, rfl⟩
abbrev main_v413 : Ref sig .tc := ⟨.hbm, 522, rfl⟩
abbrev main_v414 : Ref sig .tc := ⟨.hbm, 523, rfl⟩
abbrev main_v415 : Ref sig .tc := ⟨.hbm, 524, rfl⟩
abbrev main_cst_68 : Ref sig .tc := ⟨.hbm, 525, rfl⟩
abbrev main_v416 : Ref sig .tc := ⟨.hbm, 526, rfl⟩
abbrev main_v417 : Ref sig .tc := ⟨.hbm, 527, rfl⟩
abbrev main_v418 : Ref sig .tc := ⟨.hbm, 528, rfl⟩
abbrev main_v419 : Ref sig .tc := ⟨.hbm, 529, rfl⟩
abbrev main_v420 : Ref sig .tc := ⟨.hbm, 530, rfl⟩
abbrev main_v421 : Ref sig .tc := ⟨.hbm, 531, rfl⟩
abbrev main_v422 : Ref sig .tc := ⟨.hbm, 532, rfl⟩
abbrev main_v423 : Ref sig .tc := ⟨.hbm, 533, rfl⟩
abbrev main_v424 : Ref sig .tc := ⟨.hbm, 534, rfl⟩
abbrev main_v425 : Ref sig .tc := ⟨.hbm, 535, rfl⟩
abbrev main_v426 : Ref sig .tc := ⟨.hbm, 536, rfl⟩
abbrev main_v427 : Ref sig .tc := ⟨.hbm, 537, rfl⟩
abbrev main_v428 : Ref sig .tc := ⟨.hbm, 538, rfl⟩
abbrev main_v429 : Ref sig .tc := ⟨.hbm, 539, rfl⟩
abbrev main_v430 : Ref sig .tc := ⟨.hbm, 540, rfl⟩
abbrev main_cst_69 : Ref sig .tc := ⟨.hbm, 541, rfl⟩
abbrev main_v431 : Ref sig .tc := ⟨.hbm, 542, rfl⟩
abbrev main_v432 : Ref sig .tc := ⟨.hbm, 543, rfl⟩
abbrev main_v433 : Ref sig .tc := ⟨.hbm, 544, rfl⟩
abbrev main_v434 : Ref sig .tc := ⟨.hbm, 545, rfl⟩
abbrev main_v435 : Ref sig .tc := ⟨.hbm, 546, rfl⟩
abbrev main_v436 : Ref sig .tc := ⟨.hbm, 547, rfl⟩
abbrev main_v437 : Ref sig .tc := ⟨.hbm, 548, rfl⟩
abbrev main_v438 : Ref sig .tc := ⟨.hbm, 549, rfl⟩
abbrev main_v439 : Ref sig .tc := ⟨.hbm, 550, rfl⟩
abbrev main_v440 : Ref sig .tc := ⟨.hbm, 551, rfl⟩
abbrev main_v441 : Ref sig .tc := ⟨.hbm, 552, rfl⟩
abbrev main_cst_70 : Ref sig .tc := ⟨.hbm, 553, rfl⟩
abbrev main_v442 : Ref sig .tc := ⟨.hbm, 554, rfl⟩
abbrev main_v443 : Ref sig .tc := ⟨.hbm, 555, rfl⟩
abbrev main_v444 : Ref sig .tc := ⟨.hbm, 556, rfl⟩
abbrev main_v445 : Ref sig .tc := ⟨.hbm, 557, rfl⟩
abbrev main_v446 : Ref sig .tc := ⟨.hbm, 558, rfl⟩
abbrev main_v447 : Ref sig .tc := ⟨.hbm, 559, rfl⟩
abbrev main_v448 : Ref sig .tc := ⟨.hbm, 560, rfl⟩
abbrev main_v449 : Ref sig .tc := ⟨.hbm, 561, rfl⟩
abbrev main_v450 : Ref sig .tc := ⟨.hbm, 562, rfl⟩
abbrev main_v451 : Ref sig .tc := ⟨.hbm, 563, rfl⟩
abbrev main_v452 : Ref sig .tc := ⟨.hbm, 564, rfl⟩
abbrev main_v453 : Ref sig .tc := ⟨.hbm, 565, rfl⟩
abbrev main_cst_71 : Ref sig .tc := ⟨.hbm, 566, rfl⟩
abbrev main_v454 : Ref sig .tc := ⟨.hbm, 567, rfl⟩
abbrev main_v455 : Ref sig .tc := ⟨.hbm, 568, rfl⟩
abbrev main_cst_72 : Ref sig .tc := ⟨.hbm, 569, rfl⟩
abbrev main_v456 : Ref sig .tc := ⟨.hbm, 570, rfl⟩
abbrev main_v457 : Ref sig .tc := ⟨.hbm, 571, rfl⟩
abbrev main_v458 : Ref sig .tc := ⟨.hbm, 572, rfl⟩
abbrev main_v459 : Ref sig .tc := ⟨.hbm, 573, rfl⟩
abbrev main_v460 : Ref sig .tc := ⟨.hbm, 574, rfl⟩
abbrev main_cst_73 : Ref sig .tc := ⟨.hbm, 575, rfl⟩
abbrev main_v461 : Ref sig .tc := ⟨.hbm, 576, rfl⟩
abbrev main_v462 : Ref sig .tc := ⟨.hbm, 577, rfl⟩
abbrev main_cst_74 : Ref sig .tc := ⟨.hbm, 578, rfl⟩
abbrev main_v463 : Ref sig .tc := ⟨.hbm, 579, rfl⟩
abbrev main_v464 : Ref sig .tc := ⟨.hbm, 580, rfl⟩
abbrev main_v465 : Ref sig .tc := ⟨.hbm, 581, rfl⟩
abbrev main_v466 : Ref sig .tc := ⟨.hbm, 582, rfl⟩
abbrev main_cst_75 : Ref sig .tc := ⟨.hbm, 583, rfl⟩
abbrev main_v467 : Ref sig .tc := ⟨.hbm, 584, rfl⟩
abbrev main_v468 : Ref sig .tc := ⟨.hbm, 585, rfl⟩
abbrev main_v469 : Ref sig .tc := ⟨.hbm, 586, rfl⟩
abbrev main_v470 : Ref sig .tc := ⟨.hbm, 587, rfl⟩
abbrev main_v471 : Ref sig .tc := ⟨.hbm, 588, rfl⟩
abbrev main_v472 : Ref sig .tc := ⟨.hbm, 589, rfl⟩
abbrev main_v473 : Ref sig .tc := ⟨.hbm, 590, rfl⟩
abbrev main_v474 : Ref sig .tc := ⟨.hbm, 591, rfl⟩
abbrev main_v475 : Ref sig .tc := ⟨.hbm, 592, rfl⟩
abbrev main_v476 : Ref sig .tc := ⟨.hbm, 593, rfl⟩
abbrev main_v477 : Ref sig .tc := ⟨.hbm, 594, rfl⟩
abbrev main_v478 : Ref sig .tc := ⟨.hbm, 595, rfl⟩
abbrev main_v479 : Ref sig .tc := ⟨.hbm, 596, rfl⟩
abbrev main_v480 : Ref sig .tc := ⟨.hbm, 597, rfl⟩
abbrev main_v481 : Ref sig .tc := ⟨.hbm, 598, rfl⟩
abbrev main_cst_76 : Ref sig .tc := ⟨.hbm, 599, rfl⟩
abbrev main_v482 : Ref sig .tc := ⟨.hbm, 600, rfl⟩
abbrev main_v483 : Ref sig .tc := ⟨.hbm, 601, rfl⟩
abbrev main_v484 : Ref sig .tc := ⟨.hbm, 602, rfl⟩
abbrev main_v485 : Ref sig .tc := ⟨.hbm, 603, rfl⟩
abbrev main_v486 : Ref sig .tc := ⟨.hbm, 604, rfl⟩
abbrev main_v487 : Ref sig .tc := ⟨.hbm, 605, rfl⟩
abbrev main_v488 : Ref sig .tc := ⟨.hbm, 606, rfl⟩
abbrev main_v489 : Ref sig .tc := ⟨.hbm, 607, rfl⟩
abbrev main_v490 : Ref sig .tc := ⟨.hbm, 608, rfl⟩
abbrev main_v491 : Ref sig .tc := ⟨.hbm, 609, rfl⟩
abbrev main_v492 : Ref sig .tc := ⟨.hbm, 610, rfl⟩
abbrev main_cst_77 : Ref sig .tc := ⟨.hbm, 611, rfl⟩
abbrev main_v493 : Ref sig .tc := ⟨.hbm, 612, rfl⟩
abbrev main_v494 : Ref sig .tc := ⟨.hbm, 613, rfl⟩
abbrev main_v495 : Ref sig .tc := ⟨.hbm, 614, rfl⟩
abbrev main_v496 : Ref sig .tc := ⟨.hbm, 615, rfl⟩
abbrev main_v497 : Ref sig .tc := ⟨.hbm, 616, rfl⟩
abbrev main_v498 : Ref sig .tc := ⟨.hbm, 617, rfl⟩
abbrev main_v499 : Ref sig .tc := ⟨.hbm, 618, rfl⟩
abbrev main_v500 : Ref sig .tc := ⟨.hbm, 619, rfl⟩
abbrev main_v501 : Ref sig .tc := ⟨.hbm, 620, rfl⟩
abbrev main_v502 : Ref sig .tc := ⟨.hbm, 621, rfl⟩
abbrev main_v503 : Ref sig .tc := ⟨.hbm, 622, rfl⟩
abbrev main_v504 : Ref sig .tc := ⟨.hbm, 623, rfl⟩
abbrev main_cst_78 : Ref sig .tc := ⟨.hbm, 624, rfl⟩
abbrev main_v505 : Ref sig .tc := ⟨.hbm, 625, rfl⟩
abbrev main_v506 : Ref sig .tc := ⟨.hbm, 626, rfl⟩
abbrev main_cst_79 : Ref sig .tc := ⟨.hbm, 627, rfl⟩
abbrev main_v507 : Ref sig .tc := ⟨.hbm, 628, rfl⟩
abbrev main_v508 : Ref sig .tc := ⟨.hbm, 629, rfl⟩
abbrev main_v509 : Ref sig .tc := ⟨.hbm, 630, rfl⟩
abbrev main_v510 : Ref sig .tc := ⟨.hbm, 631, rfl⟩
abbrev main_v511 : Ref sig .tc := ⟨.hbm, 632, rfl⟩
abbrev main_cst_80 : Ref sig .tc := ⟨.hbm, 633, rfl⟩
abbrev main_v512 : Ref sig .tc := ⟨.hbm, 634, rfl⟩
abbrev main_v513 : Ref sig .tc := ⟨.hbm, 635, rfl⟩
abbrev main_cst_81 : Ref sig .tc := ⟨.hbm, 636, rfl⟩
abbrev main_v514 : Ref sig .tc := ⟨.hbm, 637, rfl⟩
abbrev main_v515 : Ref sig .tc := ⟨.hbm, 638, rfl⟩
abbrev main_v516 : Ref sig .tc := ⟨.hbm, 639, rfl⟩
abbrev main_v517 : Ref sig .tc := ⟨.hbm, 640, rfl⟩
abbrev main_cst_82 : Ref sig .tc := ⟨.hbm, 641, rfl⟩
abbrev main_v518 : Ref sig .tc := ⟨.hbm, 642, rfl⟩
abbrev main_v519 : Ref sig .tc := ⟨.hbm, 643, rfl⟩
abbrev main_v520 : Ref sig .tc := ⟨.hbm, 644, rfl⟩
abbrev main_v521 : Ref sig .tc := ⟨.hbm, 645, rfl⟩
abbrev main_v522 : Ref sig .tc := ⟨.hbm, 646, rfl⟩
abbrev main_v523 : Ref sig .tc := ⟨.hbm, 647, rfl⟩
abbrev main_v524 : Ref sig .tc := ⟨.hbm, 648, rfl⟩
abbrev main_v525 : Ref sig .tc := ⟨.hbm, 649, rfl⟩
abbrev main_v526 : Ref sig .tc := ⟨.hbm, 650, rfl⟩
abbrev main_v527 : Ref sig .tc := ⟨.hbm, 651, rfl⟩
abbrev main_v528 : Ref sig .tc := ⟨.hbm, 652, rfl⟩
abbrev main_v529 : Ref sig .tc := ⟨.hbm, 653, rfl⟩
abbrev main_v530 : Ref sig .tc := ⟨.hbm, 654, rfl⟩
abbrev main_v531 : Ref sig .tc := ⟨.hbm, 655, rfl⟩
abbrev main_v532 : Ref sig .tc := ⟨.hbm, 656, rfl⟩
abbrev main_cst_83 : Ref sig .tc := ⟨.hbm, 657, rfl⟩
abbrev main_v533 : Ref sig .tc := ⟨.hbm, 658, rfl⟩
abbrev main_v534 : Ref sig .tc := ⟨.hbm, 659, rfl⟩
abbrev main_v535 : Ref sig .tc := ⟨.hbm, 660, rfl⟩
abbrev main_v536 : Ref sig .tc := ⟨.hbm, 661, rfl⟩
abbrev main_v537 : Ref sig .tc := ⟨.hbm, 662, rfl⟩
abbrev main_v538 : Ref sig .tc := ⟨.hbm, 663, rfl⟩
abbrev main_v539 : Ref sig .tc := ⟨.hbm, 664, rfl⟩
abbrev main_v540 : Ref sig .tc := ⟨.hbm, 665, rfl⟩
abbrev main_v541 : Ref sig .tc := ⟨.hbm, 666, rfl⟩

abbrev nD : Nat := 1
abbrev τ : Topo := Topo.v7x

variable {F : FTy → Type} [FloatOps F]
-- ==== Proof.Spec.lean ====
/- The mathematics of the two programs over the real numbers: what every stage computes from the arguments, the value
   the kernel leaves (`kernelOut`), the value the reference leaves (`referenceOut`). -/
module

public import Idealize.ShloMosaic.PureOps.Ideal
public import Mathlib.Algebra.BigOperators.Fin
import Mathlib.Tactic.Positivity

@[expose] public section

noncomputable section

namespace Cert.Moe

/-- The arguments, as arrays of reals. -/
structure Args where
  x : Fin 4 → Fin 2048 → Fin 1024 → ℝ
  up : Fin 2048 → Fin 1024 → ℝ
  gate : Fin 2048 → Fin 1024 → ℝ
  down : Fin 1024 → Fin 2048 → ℝ
  wpre : Fin 128 → Fin 1024 → ℝ
  wpost : Fin 128 → Fin 2048 → ℝ
  ag : Fin 128 → ℝ
  ab : Fin 128 → ℝ
  wap : Fin 2048 → Fin 128 → ℝ
  wa : Fin 8 → Fin 128 → Fin 128 → ℝ
  lg : Fin 8 → Fin 128 → ℝ
  lb : Fin 8 → Fin 128 → ℝ
  wep : Fin 2048 → Fin 128 → ℝ
  wop : Fin 1024 → Fin 2048 → ℝ
  wg : Fin 2 → Fin 1024 → ℝ
  we : Fin 4 → Fin 1024 → ℝ

/-- The number both programs add to a variance. -/
def epsLn : ℝ := 10995116 / 2 ^ 40

/-- The number both programs add to the sum of the selected probabilities. -/
def epsSel : ℝ := 14073749 / 2 ^ 47

/-- The factor of the adapter's and of the experts' contribution (the single-precision number nearest a tenth). -/
def tenth : ℝ := 13421773 / 2 ^ 27

/-- `epsLn` is positive. -/
theorem epsLn_pos : 0 < epsLn := by unfold epsLn; positivity
/-- `epsSel` is positive. -/
theorem epsSel_pos : 0 < epsSel := by unfold epsSel; positivity

/-- The inner product of two vectors. -/
def dot {n : ℕ} (u v : Fin n → ℝ) : ℝ := ∑ k, u k * v k

/-- `r` times the logistic of `r`. -/
def silu (r : ℝ) : ℝ := r * (1 + Real.exp (-r))⁻¹

/-- The mean of 128 numbers. -/
def mean (v : Fin 128 → ℝ) : ℝ := (∑ k, v k) / 128

/-- The mean square deviation from the mean. -/
def variance (v : Fin 128 → ℝ) : ℝ := mean fun k => (v k - mean v) * (v k - mean v)

/-- Layer normalisation with scale `g` and shift `b`. -/
def layerNorm (v g b : Fin 128 → ℝ) (a : Fin 128) : ℝ :=
  (v a - mean v) / Real.sqrt (variance v + epsLn) * g a + b a

/-- A variance is not negative. -/
theorem variance_nonneg (v : Fin 128 → ℝ) : 0 ≤ variance v :=
  div_nonneg (Finset.sum_nonneg fun k _ => mul_self_nonneg _) (by norm_num)

/-- The softmax of a vector. -/
def softmax {n : ℕ} (v : Fin n → ℝ) (i : Fin n) : ℝ := Real.exp (v i) / ∑ k, Real.exp (v k)

/-- A softmax's denominator is positive. -/
theorem sum_exp_pos {n : ℕ} (v : Fin n → ℝ) (i : Fin n) : 0 < ∑ k, Real.exp (v k) :=
  Finset.sum_pos (fun _ _ => Real.exp_pos _) ⟨i, Finset.mem_univ i⟩

/-- A softmax is positive. -/
theorem softmax_pos {n : ℕ} (v : Fin n → ℝ) (i : Fin n) : 0 < softmax v i :=
  div_pos (Real.exp_pos _) (sum_exp_pos v i)

/-- Subtracting one number from every entry leaves the softmax unchanged. -/
theorem softmax_sub {n : ℕ} (v : Fin n → ℝ) (m : ℝ) (i : Fin n) : softmax (fun k => v k - m) i = softmax v i := by
  unfold softmax
  simp only [Real.exp_sub]
  rw [← Finset.sum_div, div_div_div_cancel_right₀ (Real.exp_pos m).ne']

/-- Entry `m` comes before entry `j` in decreasing order, the lower index first among equals. -/
def Beats {n : ℕ} (l : Fin n → ℝ) (m j : Fin n) : Prop := l j < l m ∨ (l j = l m ∧ m < j)

instance {n : ℕ} (l : Fin n → ℝ) (m j : Fin n) : Decidable (Beats l m j) := Classical.dec _

/-- How many entries come before entry `j`. -/
def rank {n : ℕ} (l : Fin n → ℝ) (j : Fin n) : ℕ := (Finset.univ.filter fun m => Beats l m j).card

/-- The entry if it is one of the two largest, else zero. -/
def top2 {n : ℕ} (l : Fin n → ℝ) (j : Fin n) : ℝ := if rank l j < 2 then l j else 0

/-- The larger of two entries' place, the first among equals. -/
def group (p : Fin 2 → ℝ) : ℕ := if p 0 < p 1 then 1 else 0

/-- The weight of expert `e`: the chosen group's probability times the expert's share among the two experts chosen in
    the group; zero outside the group. -/
def weight (p : Fin 2 → ℝ) (l : Fin 4 → ℝ) (e : Fin 8) : ℝ :=
  if e.val / 4 = group p then
    max (p 0) (p 1) * (top2 l ⟨e.val % 4, Nat.mod_lt _ (by decide)⟩ / ((∑ j, top2 l j) + epsSel))
  else 0

/-- Keeping the two largest of nonnegative numbers leaves nonnegative numbers. -/
theorem top2_nonneg {n : ℕ} (l : Fin n → ℝ) (h : ∀ j, 0 ≤ l j) (j : Fin n) : 0 ≤ top2 l j := by
  unfold top2; split
  · exact h j
  · exact le_rfl

/-- The weight from nonnegative probabilities is not negative. -/
theorem weight_nonneg (p : Fin 2 → ℝ) (l : Fin 4 → ℝ) (hp : ∀ i, 0 ≤ p i) (hl : ∀ j, 0 ≤ l j) (e : Fin 8) :
    0 ≤ weight p l e := by
  unfold weight; split
  · exact mul_nonneg (le_max_of_le_left (hp 0)) (div_nonneg (top2_nonneg l hl _)
      (add_nonneg (Finset.sum_nonneg fun j _ => top2_nonneg l hl j) epsSel_pos.le))
  · exact le_rfl

namespace Args
variable (A : Args) (b : Fin 4) (s : Fin 2048)

/-- The hidden layer of the shared network. -/
def hid (h : Fin 2048) : ℝ := silu (dot (A.x b s) (A.gate h)) * dot (A.x b s) (A.up h)

/-- The token projected to the adapters' width. -/
def pre (a : Fin 128) : ℝ := dot (A.x b s) (A.wpre a)

/-- The adapter's queries (and values). -/
def ain : Fin 128 → ℝ := layerNorm (A.pre b s) A.ag A.ab

/-- The adapter's keys. -/
def aout : Fin 128 → ℝ := layerNorm (fun a => dot (A.hid b s) (A.wpost a)) A.ag A.ab

/-- The adapter's weight of token `t` for token `s`. -/
def aw (t : Fin 2048) : ℝ := silu (min 5 (max (-5) (dot (A.ain b s) (A.aout b t))))

/-- The adapter's output before its projection. -/
def adapt (a : Fin 128) : ℝ := ∑ t, A.aw b s t * A.ain b t a

/-- The probabilities of the two groups. -/
def gprob : Fin 2 → ℝ := softmax fun i => dot (A.x b s) (A.wg i)

/-- The probabilities of the four experts of a group. -/
def lprob : Fin 4 → ℝ := softmax fun j => dot (A.x b s) (A.we j)

/-- The weight of expert `e` at the token. -/
def w (e : Fin 8) : ℝ := weight (A.gprob b s) (A.lprob b s) e

/-- Expert `e`'s normalised vector. -/
def expert (e : Fin 8) : Fin 128 → ℝ := layerNorm (fun a => dot (A.pre b s) (A.wa e a)) (A.lg e) (A.lb e)

/-- The product of the experts' two projections. -/
def projE (d : Fin 1024) (a : Fin 128) : ℝ := ∑ h, A.wop d h * A.wep h a

/-- The product of the adapter's projection with the down projection. -/
def projA (d : Fin 1024) (a : Fin 128) : ℝ := ∑ h, A.down d h * A.wap h a

/-- The shared network's output as the reference computes it. -/
def shared (d : Fin 1024) : ℝ := dot (fun h => A.hid b s h + tenth * dot (A.adapt b s) (A.wap h)) (A.down d)

/-- Expert `e`'s output as the reference computes it. -/
def eout (e : Fin 8) (d : Fin 1024) : ℝ := dot (fun h => dot (A.expert b s e) (A.wep h)) (A.wop d)

/-- What the kernel leaves. -/
def kernelOut (d : Fin 1024) : ℝ :=
  (dot (A.hid b s) (A.down d) + tenth * dot (A.adapt b s) (A.projA d)) * ∑ e, A.w b s e
    + tenth * dot (fun a => ∑ e, A.w b s e * A.expert b s e a) (A.projE d)

/-- What the reference leaves. -/
def referenceOut (d : Fin 1024) : ℝ :=
  ∑ e, (A.shared b s d + tenth * A.eout b s e d * if 0 < A.w b s e then 1 else 0) * A.w b s e

end Args

end Cert.Moe

end
-- ==== Proof.Held.lean ====
/- Sixteen arrays that hold the real arguments. -/
module

public import proofs.«01_k».proof.Proof.Spec
public import Idealize.ShloMosaic.Lib.Pointwise

@[expose] public section

noncomputable section

namespace Cert.Moe

open Idealize.ShloMosaic

/-- The argument arrays hold `A`, element by element. -/
structure Held (x0 : Vec Ideal ⟨3, ![4, 2048, 1024]⟩ .f32) (x1 x2 : Vec Ideal ⟨2, ![2048, 1024]⟩ .f32)
    (x3 : Vec Ideal ⟨2, ![1024, 2048]⟩ .f32) (x4 : Vec Ideal ⟨2, ![128, 1024]⟩ .f32) (x5 : Vec Ideal ⟨2, ![128, 2048]⟩ .f32)
    (x6 x7 : Vec Ideal ⟨1, ![128]⟩ .f32) (x8 : Vec Ideal ⟨2, ![2048, 128]⟩ .f32) (x9 : Vec Ideal ⟨3, ![8, 128, 128]⟩ .f32)
    (x10 x11 : Vec Ideal ⟨2, ![8, 128]⟩ .f32) (x12 : Vec Ideal ⟨2, ![2048, 128]⟩ .f32) (x13 : Vec Ideal ⟨2, ![1024, 2048]⟩ .f32)
    (x14 : Vec Ideal ⟨2, ![2, 1024]⟩ .f32) (x15 : Vec Ideal ⟨2, ![4, 1024]⟩ .f32) (A : Args) : Prop where
  x : ∀ b s d, x0 (ix3 b s d) = (A.x b s d : EReal)
  up : ∀ h d, x1 (ix2 h d) = (A.up h d : EReal)
  gate : ∀ h d, x2 (ix2 h d) = (A.gate h d : EReal)
  down : ∀ d h, x3 (ix2 d h) = (A.down d h : EReal)
  wpre : ∀ a d, x4 (ix2 a d) = (A.wpre a d : EReal)
  wpost : ∀ a h, x5 (ix2 a h) = (A.wpost a h : EReal)
  ag : ∀ a, x6 (ix1 a) = (A.ag a : EReal)
  ab : ∀ a, x7 (ix1 a) = (A.ab a : EReal)
  wap : ∀ h a, x8 (ix2 h a) = (A.wap h a : EReal)
  wa : ∀ e a k, x9 (ix3 e a k) = (A.wa e a k : EReal)
  lg : ∀ e a, x10 (ix2 e a) = (A.lg e a : EReal)
  lb : ∀ e a, x11 (ix2 e a) = (A.lb e a : EReal)
  wep : ∀ h a, x12 (ix2 h a) = (A.wep h a : EReal)
  wop : ∀ d h, x13 (ix2 d h) = (A.wop d h : EReal)
  wg : ∀ i d, x14 (ix2 i d) = (A.wg i d : EReal)
  we : ∀ j d, x15 (ix2 j d) = (A.we j d : EReal)

/-- The sequence of token `n`. -/
def seq (n : Fin 8192) : Fin 4 := ⟨n.val / 2048, by omega⟩

/-- The position of token `n` in its sequence. -/
def pos (n : Fin 8192) : Fin 2048 := ⟨n.val % 2048, by omega⟩

/-- The token at a position of a sequence. -/
def token (b : Fin 4) (s : Fin 2048) : Fin 8192 := ⟨b.val * 2048 + s.val, by omega⟩

/-- The sequence of the token at a position of sequence `b` is `b`. -/
theorem seq_token (b : Fin 4) (s : Fin 2048) : seq (token b s) = b := by
  apply Fin.ext; show (b.val * 2048 + s.val) / 2048 = b.val; omega

/-- The position of the token at position `s` is `s`. -/
theorem pos_token (b : Fin 4) (s : Fin 2048) : pos (token b s) = s := by
  apply Fin.ext; show (b.val * 2048 + s.val) % 2048 = s.val; omega

end Cert.Moe

end
-- ==== Proof.Finite.lean ====
/- The precondition: where it holds, the sixteen argument arrays hold real numbers. -/
module

public import proofs.«01_k».proof.Proof.Held
public import proofs.«01_k».proof.Proof.Gen.Pre_finite
public import Idealize.ShloMosaic.Lib.ReduceAll

@[expose] public section

noncomputable section

namespace Cert.Moe

open Idealize.ShloMosaic

/-- The literal infinity denotes the greatest extended real. -/
theorem infinity_bits : Ideal.ofBits .f32 0x7F800000#32 = ⊤ := by simp [Ideal.ofBits, Ideal.ieee]

/-- A number whose magnitude is below infinity is a real. -/
theorem real_of_abs_lt {x : EReal} (h : max x (-x) < ⊤) : ∃ r : ℝ, x = r := by
  induction x with
  | bot => simp at h
  | coe r => exact ⟨r, rfl⟩
  | top => simp at h

/-- An array all of whose magnitudes are below infinity holds reals. -/
theorem reals_of_check {s t u : Shape} [Subsingleton t.Idx] {axes : List (Fin s.rank)} (x : FVec Ideal s .f32) (init : u.Idx → BitVec 1) (inf : FVec Ideal s .f32)
    (hinf : ∀ i, inf i = ⊤) (h : s.ReducesTo axes t) (hu : 0 < u.numel) (j : t.Idx)
    (e : Host.reduce IntOp.andi (cmpf .olt (Host.absf x) inf) init h hu j = 1#1) : ∃ f : s.Idx → ℝ, ∀ i, x i = (f i : EReal) := by
  have h' : ∀ i, ∃ r : ℝ, x i = (r : EReal) := fun i => by
    have hi := Host.reduce_andi_all _ init h hu j e i
    have : BitVec.ofBool (decide (max (x i) (-(x i)) < inf i)) = 1#1 := hi
    rw [hinf] at this
    by_cases hlt : max (x i) (-(x i)) < ⊤
    · exact real_of_abs_lt hlt
    · rw [decide_eq_false hlt] at this
      exact absurd this (by decide)
  exact ⟨fun i => (h' i).choose, fun i => (h' i).choose_spec⟩

instance : Subsingleton (⟨0, ![]⟩ : Shape).Idx := ⟨fun a b => funext fun k => k.elim0⟩

open Cert.Pre_finite Cert.Pre_finite.Gen in
/-- Under the precondition the arrays hold an `Args`. -/
theorem held_of_finite (x0 : Vec Ideal S4x2048x1024 .f32) (x1 x2 : Vec Ideal S2048x1024 .f32)
    (x3 : Vec Ideal S1024x2048 .f32) (x4 : Vec Ideal S128x1024 .f32) (x5 : Vec Ideal S128x2048 .f32)
    (x6 x7 : Vec Ideal S128 .f32) (x8 : Vec Ideal S2048x128 .f32) (x9 : Vec Ideal S8x128x128 .f32)
    (x10 x11 : Vec Ideal S8x128 .f32) (x12 : Vec Ideal S2048x128 .f32) (x13 : Vec Ideal S1024x2048 .f32)
    (x14 : Vec Ideal S2x1024 .f32) (x15 : Vec Ideal S4x1024 .f32)
    (h : fn (F := Ideal) x0 x1 x2 x3 x4 x5 x6 x7 x8 x9 x10 x11 x12 x13 x14 x15 = fun _ => 1#1) :
    ∃ A, Held x0 x1 x2 x3 x4 x5 x6 x7 x8 x9 x10 x11 x12 x13 x14 x15 A := by
  have e := congrFun h (fun k => k.elim0)
  unfold fn fn_part1 fn_part2 fn_part3 fn_part4 at e
  simp only [andi, IntOp.andi_eq_one] at e
  obtain ⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩ := e
  obtain ⟨f0, h0⟩ := reals_of_check _ _ _ (fun _ => infinity_bits) _ _ _ e0
  obtain ⟨f1, h1⟩ := reals_of_check _ _ _ (fun _ => infinity_bits) _ _ _ e1
  obtain ⟨f2, h2⟩ := reals_of_check _ _ _ (fun _ => infinity_bits) _ _ _ e2
  obtain ⟨f3, h3⟩ := reals_of_check _ _ _ (fun _ => infinity_bits) _ _ _ e3
  obtain ⟨f4, h4⟩ := reals_of_check _ _ _ (fun _ => infinity_bits) _ _ _ e4
  obtain ⟨f5, h5⟩ := reals_of_check _ _ _ (fun _ => infinity_bits) _ _ _ e5
  obtain ⟨f6, h6⟩ := reals_of_check _ _ _ (fun _ => infinity_bits) _ _ _ e6
  obtain ⟨f7, h7⟩ := reals_of_check _ _ _ (fun _ => infinity_bits) _ _ _ e7
  obtain ⟨f8, h8⟩ := reals_of_check _ _ _ (fun _ => infinity_bits) _ _ _ e8
  obtain ⟨f9, h9⟩ := reals_of_check _ _ _ (fun _ => infinity_bits) _ _ _ e9
  obtain ⟨f10, h10⟩ := reals_of_check _ _ _ (fun _ => infinity_bits) _ _ _ e10
  obtain ⟨f11, h11⟩ := reals_of_check _ _ _ (fun _ => infinity_bits) _ _ _ e11
  obtain ⟨f12, h12⟩ := reals_of_check _ _ _ (fun _ => infinity_bits) _ _ _ e12
  obtain ⟨f13, h13⟩ := reals_of_check _ _ _ (fun _ => infinity_bits) _ _ _ e13
  obtain ⟨f14, h14⟩ := reals_of_check _ _ _ (fun _ => infinity_bits) _ _ _ e14
  obtain ⟨f15, h15⟩ := reals_of_check _ _ _ (fun _ => infinity_bits) _ _ _ e15
  exact ⟨{ x := fun b s d => f0 (ix3 b s d), up := fun h d => f1 (ix2 h d), gate := fun h d => f2 (ix2 h d)
           down := fun d h => f3 (ix2 d h), wpre := fun a d => f4 (ix2 a d), wpost := fun a h => f5 (ix2 a h)
           ag := fun a => f6 (ix1 a), ab := fun a => f7 (ix1 a), wap := fun h a => f8 (ix2 h a)
           wa := fun e a k => f9 (ix3 e a k), lg := fun e a => f10 (ix2 e a), lb := fun e a => f11 (ix2 e a)
           wep := fun h a => f12 (ix2 h a), wop := fun d h => f13 (ix2 d h)
           wg := fun g d => f14 (ix2 g d), we := fun j d => f15 (ix2 j d) },
    { x := fun b s d => h0 _, up := fun h d => h1 _, gate := fun h d => h2 _, down := fun d h => h3 _
      wpre := fun a d => h4 _, wpost := fun a h => h5 _, ag := fun a => h6 _, ab := fun a => h7 _
      wap := fun h a => h8 _, wa := fun e a k => h9 _, lg := fun e a => h10 _, lb := fun e a => h11 _
      wep := fun h a => h12 _, wop := fun d h => h13 _, wg := fun g d => h14 _, we := fun j d => h15 _ }⟩

end Cert.Moe

end
-- ==== Proof.Equation.lean ====
/- The kernel's formula and the reference's are one number: sums and products over the reals rearranged. -/
module

public import proofs.«01_k».proof.Proof.Spec
import Mathlib.Tactic.Ring

@[expose] public section

noncomputable section

namespace Cert.Moe

/-- An inner product with a composed projection is the inner product of the projected vector. -/
theorem dot_proj {n m : ℕ} (u : Fin n → ℝ) (M : Fin m → Fin n → ℝ) (r : Fin m → ℝ) :
    dot u (fun a => ∑ h, r h * M h a) = dot (fun h => dot u (M h)) r := by
  unfold dot
  simp only [Finset.mul_sum, Finset.sum_mul]
  rw [Finset.sum_comm]
  exact Finset.sum_congr rfl fun h _ => Finset.sum_congr rfl fun a _ => by ring

/-- The inner product is linear in its first argument, at a multiple of a second vector. -/
theorem dot_add_mul {n : ℕ} (u v r : Fin n → ℝ) (c : ℝ) : dot (fun h => u h + c * v h) r = dot u r + c * dot v r := by
  unfold dot
  rw [Finset.mul_sum, ← Finset.sum_add_distrib]
  exact Finset.sum_congr rfl fun h _ => by ring

/-- The inner product of a weighted sum of vectors. -/
theorem dot_sum_mul {n m : ℕ} (w : Fin m → ℝ) (v : Fin m → Fin n → ℝ) (r : Fin n → ℝ) :
    dot (fun a => ∑ e, w e * v e a) r = ∑ e, w e * dot (v e) r := by
  unfold dot
  simp only [Finset.mul_sum, Finset.sum_mul]
  rw [Finset.sum_comm]
  exact Finset.sum_congr rfl fun h _ => Finset.sum_congr rfl fun a _ => by ring

namespace Args
variable (A : Args) (b : Fin 4) (s : Fin 2048)

/-- A routing weight is not negative. -/
theorem w_nonneg (e : Fin 8) : 0 ≤ A.w b s e :=
  weight_nonneg _ _ (fun i => (softmax_pos _ i).le) (fun j => (softmax_pos _ j).le) e

/-- A nonnegative weight times the indicator of its being positive is the weight. -/
theorem mask_mul (e : Fin 8) : (if 0 < A.w b s e then (1 : ℝ) else 0) * A.w b s e = A.w b s e := by
  split
  · exact one_mul _
  · rename_i h
    rw [zero_mul]; exact le_antisymm (A.w_nonneg b s e) (not_lt.mp h)

/-- What the kernel leaves is what the reference leaves. -/
theorem kernelOut_eq_referenceOut (d : Fin 1024) : A.kernelOut b s d = A.referenceOut b s d := by
  have hs : dot (A.hid b s) (A.down d) + tenth * dot (A.adapt b s) (A.projA d) = A.shared b s d := by
    unfold shared projA
    rw [dot_add_mul, dot_proj]
  have he : dot (fun a => ∑ e, A.w b s e * A.expert b s e a) (A.projE d) = ∑ e, A.w b s e * A.eout b s e d := by
    rw [dot_sum_mul]
    refine Finset.sum_congr rfl fun e _ => ?_
    unfold projE eout
    rw [dot_proj]
  unfold kernelOut referenceOut
  rw [hs, he, Finset.mul_sum, Finset.mul_sum, ← Finset.sum_add_distrib]
  refine Finset.sum_congr rfl fun e _ => ?_
  rw [add_mul, mul_assoc (tenth * _), A.mask_mul b s e]
  ring

end Args

end Cert.Moe

end
-- ==== Proof.KernelRun.lean ====
/- The kernel's run with its result array: what the last region leaves, beside the unchanged arguments. -/
module

public import proofs.«01_k».proof.Proof.Gen.KernelIdeal.Frame

@[expose] public section

noncomputable section

namespace Cert.Moe

open Idealize.ShloMosaic Idealize.ShloMosaic.TcCoe Idealize.ShloMosaic.Tactic
open Idealize.SL Idealize.SL.RA Idealize.SL.BI Cert.KernelIdeal Cert.KernelIdeal.Gen
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- No argument belongs to a scope of its own. -/
theorem args_unscoped : ∀ a ∈ argRefs, ¬ (Proc.devRef .tc a : DevRef τ sig).isScoped := by decide

set_option backward.isDefEq.respectTransparency.types false in
/-- Every run ends with the result array as the last region leaves it and the arguments as launched. -/
theorem kernel_run : θ_run defs (onTc (τ := τ) (main (F := F))) ⟨m, fun _ => 0, ρ⟩ (fun r => ∀ c : Dev nD,
      r.2.mem ((c.tc : Thread nD τ).loc main_v18) = W5 m ρ c (Proc.devRef .tc main_v18)
      ∧ ∀ a ∈ argRefs, r.2.mem ((c.tc : Thread nD τ).loc a) = m ((c.tc : Thread nD τ).loc a)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨h c _ (mem_uc main_v18 (by decide)), fun a ha =>
      (h c _ (mem_uc a (args_unscoped a ha))).trans (W5_args m ρ c a ha)⟩)

end Cert.Moe

end
-- ==== Proof.Coe.lean ====
/- The exact arithmetic's operations on real numbers: sums, inner products, quotients, layer normalisation, softmax and
   the constants the programs name, each read as the real number it is. -/
module

public import proofs.«01_k».proof.Proof.Spec
public import Idealize.ShloMosaic.Lib.Pointwise

@[expose] public section

noncomputable section

namespace Cert.Moe

open Idealize.ShloMosaic

/-- A sum of reals. -/
theorem sum_coe {ι : Type*} (t : Finset ι) (f : ι → ℝ) : ∑ k ∈ t, ((f k : ℝ) : EReal) = ((∑ k ∈ t, f k : ℝ) : EReal) := by
  classical
  induction t using Finset.induction_on with
  | empty => simp
  | insert a t ha ih => rw [Finset.sum_insert ha, Finset.sum_insert ha, ih, EReal.coe_add]

/-- An inner product of reals. -/
theorem dot_coe {n : ℕ} (u v : Fin n → ℝ) : ∑ k, (((u k : ℝ) : EReal) * ((v k : ℝ) : EReal)) = ((dot u v : ℝ) : EReal) := by
  simp only [← EReal.coe_mul, sum_coe]; rfl

/-- A quotient of reals. -/
theorem div_coe {x y : ℝ} (h : y ≠ 0) : Ideal.div (x : EReal) (y : EReal) = ((x / y : ℝ) : EReal) := by
  rw [Ideal.div_coe h, ← EReal.coe_mul]; congr 1; rw [mul_one_div]

/-- The product of a real and its logistic. -/
theorem silu_coe (r : ℝ) : (r : EReal) * Ideal.logistic (r : EReal) = ((silu r : ℝ) : EReal) := by
  rw [Ideal.logistic_coe, ← EReal.coe_mul]; rfl

/-- The larger of two reals. -/
theorem max_coe (x y : ℝ) : max (x : EReal) (y : EReal) = ((max x y : ℝ) : EReal) :=
  (EReal.coe_strictMono.monotone.map_max).symm

/-- The smaller of two reals. -/
theorem min_coe (x y : ℝ) : min (x : EReal) (y : EReal) = ((min x y : ℝ) : EReal) :=
  (EReal.coe_strictMono.monotone.map_min).symm

/-! ### The constants -/

/-- The literal 128 denotes 128. -/
theorem ofBits_128 : Ideal.ofBits .f32 0x43000000#32 = ((128 : ℝ) : EReal) := by
  simp [Ideal.ofBits, Ideal.ieee, -EReal.coe_mul]; norm_num
/-- The literal added to a variance denotes `epsLn`. -/
theorem ofBits_epsLn : Ideal.ofBits .f32 0x3727C5AC#32 = ((epsLn : ℝ) : EReal) := by
  simp [Ideal.ofBits, Ideal.ieee, -EReal.coe_mul, epsLn]; norm_num
/-- The literal added to the chosen probabilities denotes `epsSel`. -/
theorem ofBits_epsSel : Ideal.ofBits .f32 0x33D6BF95#32 = ((epsSel : ℝ) : EReal) := by
  simp [Ideal.ofBits, Ideal.ieee, -EReal.coe_mul, epsSel]; norm_num
/-- The literal 0.1 denotes `tenth`. -/
theorem ofBits_tenth : Ideal.ofBits .f32 0x3DCCCCCD#32 = ((tenth : ℝ) : EReal) := by
  simp [Ideal.ofBits, Ideal.ieee, -EReal.coe_mul, tenth]; norm_num
/-- The literal 5 denotes 5. -/
theorem ofBits_five : Ideal.ofBits .f32 0x40A00000#32 = ((5 : ℝ) : EReal) := by
  simp [Ideal.ofBits, Ideal.ieee, -EReal.coe_mul]; norm_num
/-- The literal -5 denotes -5. -/
theorem ofBits_neg_five : Ideal.ofBits .f32 0xC0A00000#32 = ((-5 : ℝ) : EReal) := by
  simp [Ideal.ofBits, Ideal.ieee, -EReal.coe_mul]; norm_num
/-- The literal 2 denotes 2. -/
theorem ofBits_two : Ideal.ofBits .f32 0x40000000#32 = ((2 : ℝ) : EReal) := by
  simp [Ideal.ofBits, Ideal.ieee, -EReal.coe_mul]; norm_num
/-- The literal negative infinity denotes the least extended real. -/
theorem ofBits_neg_infinity : Ideal.ofBits .f32 0xFF800000#32 = ⊥ := by
  simp [Ideal.ofBits, Ideal.ieee]

/-- The mean of 128 reals. -/
theorem mean_coe (v : Fin 128 → ℝ) :
    Ideal.div (∑ k, ((v k : ℝ) : EReal)) (Ideal.ofBits .f32 0x43000000#32) = ((mean v : ℝ) : EReal) := by
  rw [sum_coe, ofBits_128, div_coe (by norm_num)]; rfl

/-- The mean square deviation of 128 reals. -/
theorem variance_coe (v : Fin 128 → ℝ) :
    Ideal.div (∑ k, (((v k : ℝ) : EReal) - ((mean v : ℝ) : EReal)) * (((v k : ℝ) : EReal) - ((mean v : ℝ) : EReal)))
      (Ideal.ofBits .f32 0x43000000#32) = ((variance v : ℝ) : EReal) := by
  simp only [← EReal.coe_sub, ← EReal.coe_mul]
  rw [sum_coe, ofBits_128, div_coe (by norm_num)]; rfl

/-- The root of the shifted variance. -/
theorem sqrt_variance_coe (v : Fin 128 → ℝ) :
    Ideal.sqrt (((variance v : ℝ) : EReal) + Ideal.ofBits .f32 0x3727C5AC#32)
      = ((Real.sqrt (variance v + epsLn) : ℝ) : EReal) := by
  rw [ofBits_epsLn, ← EReal.coe_add, Ideal.sqrt_coe, if_neg (not_lt.mpr (add_nonneg (variance_nonneg v) epsLn_pos.le))]

/-- The deviation a normalisation divides by is not zero. -/
theorem sqrt_variance_ne (v : Fin 128 → ℝ) : Real.sqrt (variance v + epsLn) ≠ 0 :=
  (Real.sqrt_pos.mpr (add_pos_of_nonneg_of_pos (variance_nonneg v) epsLn_pos)).ne'

/-- The normalised entry, scaled and shifted. -/
theorem layerNorm_coe (v g b : Fin 128 → ℝ) (a : Fin 128) :
    Ideal.div (((v a : ℝ) : EReal) - ((mean v : ℝ) : EReal)) ((Real.sqrt (variance v + epsLn) : ℝ) : EReal) * ((g a : ℝ) : EReal)
      + ((b a : ℝ) : EReal) = ((layerNorm v g b a : ℝ) : EReal) := by
  rw [← EReal.coe_sub, div_coe (sqrt_variance_ne v), ← EReal.coe_mul, ← EReal.coe_add]; rfl

/-- Layer normalisation of a vector, as the programs spell it over a vector of reals. -/
theorem layerNorm_of {p : Fin 128 → EReal} {g' b' : EReal} (v g b : Fin 128 → ℝ) (a : Fin 128) (hp : ∀ k, p k = (v k : EReal))
    (hg : g' = (g a : EReal)) (hb : b' = (b a : EReal)) :
    Ideal.div (p a - Ideal.div (∑ k, p k) (Ideal.ofBits .f32 0x43000000#32))
        (Ideal.sqrt (Ideal.div (∑ k, (p k - Ideal.div (∑ l, p l) (Ideal.ofBits .f32 0x43000000#32))
            * (p k - Ideal.div (∑ l, p l) (Ideal.ofBits .f32 0x43000000#32))) (Ideal.ofBits .f32 0x43000000#32)
          + Ideal.ofBits .f32 0x3727C5AC#32)) * g' + b' = ((layerNorm v g b a : ℝ) : EReal) := by
  simp only [hp, hg, hb, mean_coe, variance_coe, sqrt_variance_coe, layerNorm_coe]

/-- The largest of some reals, from minus infinity, is one of them. -/
theorem fold_max_coe {n : ℕ} (v : Fin (n + 1) → ℝ) :
    ∃ m : ℝ, Finset.univ.fold max (⊥ : EReal) (fun k => ((v k : ℝ) : EReal)) = (m : EReal) := by
  obtain ⟨i, -, h⟩ := Finset.exists_mem_eq_sup Finset.univ Finset.univ_nonempty (fun k : Fin (n + 1) => ((v k : ℝ) : EReal))
  exact ⟨v i, h⟩

/-- The softmax of reals. -/
theorem softmax_coe {n : ℕ} (v : Fin n → ℝ) (i : Fin n) :
    Ideal.div (Ideal.exp ((v i : ℝ) : EReal)) (∑ k, Ideal.exp ((v k : ℝ) : EReal)) = ((softmax v i : ℝ) : EReal) := by
  simp only [Ideal.exp_coe]
  rw [sum_coe, div_coe (sum_exp_pos v i).ne']; rfl

/-- Softmax of a vector, as the programs spell it (less the largest entry) over a vector of reals. -/
theorem softmax_of {n : ℕ} {p : Fin (n + 1) → EReal} (v : Fin (n + 1) → ℝ) (i : Fin (n + 1)) (hp : ∀ k, p k = (v k : EReal)) :
    Ideal.div (Ideal.exp (p i - Finset.univ.fold max (Ideal.ofBits .f32 0xFF800000#32) fun k => p k))
        (∑ j, Ideal.exp (p j - Finset.univ.fold max (Ideal.ofBits .f32 0xFF800000#32) fun k => p k))
      = ((softmax v i : ℝ) : EReal) := by
  obtain ⟨m, hm⟩ := fold_max_coe v
  simp only [hp, ofBits_neg_infinity, hm, ← EReal.coe_sub]
  rw [softmax_coe fun k => v k - m, softmax_sub]

/-- The offset of a whole matrix. -/
theorem offset2 : (![0, 0] : Fin 2 → ℕ) = fun _ => 0 := by funext i; fin_cases i <;> rfl

/-- The offset of a whole array of three axes. -/
theorem offset3 : (![0, 0, 0] : Fin 3 → ℕ) = fun _ => 0 := by funext i; fin_cases i <;> rfl

end Cert.Moe

end
-- ==== Proof.Stage1.lean ====
/- What the first launch computes at one grid point: a block of 1024 tokens' hidden layer, projections, adapter inputs and
   outputs, and router logits, as functions of the real numbers its input blocks hold. -/
module

public import proofs.«01_k».proof.Proof.Coe
public import proofs.«01_k».proof.Proof.Gen.KernelIdeal.Frame

@[expose] public section

noncomputable section

namespace Cert.Moe

open Idealize.ShloMosaic Cert.KernelIdeal Cert.KernelIdeal.Gen

variable {x0 : Vec Ideal S1024x1024 .f32} {x1 x2 : Vec Ideal S2048x1024 .bf16} {x3 : Vec Ideal S128x2048 .bf16}
  {x4 : Vec Ideal S128x1024 .bf16} {x5 : Vec Ideal S8x1024 .f32} {x6 x7 : Vec Ideal S1x128 .f32}
  {X : Fin 1024 → Fin 1024 → ℝ} {G U : Fin 2048 → Fin 1024 → ℝ} {P : Fin 128 → Fin 2048 → ℝ}
  {Q : Fin 128 → Fin 1024 → ℝ} {R : Fin 8 → Fin 1024 → ℝ} {g b : Fin 128 → ℝ}
  (h0 : ∀ r k, x0 (ix2 r k) = (X r k : EReal)) (h1 : ∀ r k, x1 (ix2 r k) = (G r k : EReal))
  (h2 : ∀ r k, x2 (ix2 r k) = (U r k : EReal)) (h3 : ∀ r k, x3 (ix2 r k) = (P r k : EReal))
  (h4 : ∀ r k, x4 (ix2 r k) = (Q r k : EReal)) (h5 : ∀ r k, x5 (ix2 r k) = (R r k : EReal))
  (h6 : ∀ k, x6 (ix2 0 k) = (g k : EReal)) (h7 : ∀ k, x7 (ix2 0 k) = (b k : EReal))

include h0 h1 h2 in
/-- The hidden payload. -/
theorem pay_hidden (r : Fin 1024) (h : Fin 2048) :
    k0_pay4 (F := Ideal) (View.ld x0 r0_0) (View.ld x1 r0_1) (View.ld x2 r0_1) (ix2 r h)
      = ((silu (dot (X r) (G h)) * dot (X r) (U h) : ℝ) : EReal) := by
  pointwise [k0_pay4, k0_pay3, k0_pay2]
  simp only [h0, h1, h2, dot_coe, silu_coe, EReal.coe_mul]

include h0 h1 h2 in
/-- The hidden block. -/
theorem out0_8_apply (r : Fin 1024) (h : Fin 2048) :
    out0_8 x0 x1 x2 x3 x4 x5 x6 x7 (ix2 r h) = ((silu (dot (X r) (G h)) * dot (X r) (U h) : ℝ) : EReal) := by
  unfold out0_8
  rw [View.canon_unit_zero (h := offset2)]
  exact pay_hidden h0 h1 h2 r h

include h0 h4 in
/-- The projected block's payload. -/
theorem pay_pre (r : Fin 1024) (a : Fin 128) :
    k0_pay12 (F := Ideal) (k0_pay16 x0 x1 x2 x3 x4 x5 x6 x7) (View.ld x4 r0_6) (ix2 r a)
      = ((dot (X r) (Q a) : ℝ) : EReal) := by
  pointwise [k0_pay12, k0_pay16, k0_pay3, k0_pay2]
  simp only [h0, h4, dot_coe]

include h0 h4 in
/-- The projected block. -/
theorem out0_9_apply (r : Fin 1024) (a : Fin 128) :
    out0_9 x0 x1 x2 x3 x4 x5 x6 x7 (ix2 r a) = ((dot (X r) (Q a) : ℝ) : EReal) := by
  unfold out0_9
  rw [View.canon_unit_zero (h := offset2)]
  exact pay_pre h0 h4 r a

include h0 h4 h6 h7 in
/-- The adapter's input block. -/
theorem out0_10_apply (r : Fin 1024) (a : Fin 128) :
    out0_10 x0 x1 x2 x3 x4 x5 x6 x7 (ix2 r a) = ((layerNorm (fun a => dot (X r) (Q a)) g b a : ℝ) : EReal) := by
  unfold out0_10
  rw [View.canon_unit_zero (h := offset2)]
  pointwise [k0_pay14, k0_pay17, k0_pay18, k0_pay5, k0_pay6]
  exact layerNorm_of _ g b a (fun k => pay_pre h0 h4 r k) (h6 a) (h7 a)

include h0 h1 h2 h3 in
/-- The hidden block's projection, the payload. -/
theorem pay_post (r : Fin 1024) (a : Fin 128) :
    k0_pay7 (F := Ideal) (View.ld x0 r0_0) (View.ld x1 r0_1) (View.ld x2 r0_1) (View.ld x3 r0_4) (ix2 r a)
      = ((dot (fun h => silu (dot (X r) (G h)) * dot (X r) (U h)) (P a) : ℝ) : EReal) := by
  pointwise [k0_pay7]
  simp only [pay_hidden h0 h1 h2, h3, dot_coe (fun h => silu (dot (X r) (G h)) * dot (X r) (U h))]

include h0 h1 h2 h3 h6 h7 in
/-- The adapter's output block. -/
theorem out0_11_apply (r : Fin 1024) (a : Fin 128) :
    out0_11 x0 x1 x2 x3 x4 x5 x6 x7 (ix2 r a)
      = ((layerNorm (fun a => dot (fun h => silu (dot (X r) (G h)) * dot (X r) (U h)) (P a)) g b a : ℝ) : EReal) := by
  unfold out0_11
  rw [View.canon_unit_zero (h := offset2)]
  pointwise [k0_pay11, k0_pay17, k0_pay18, k0_pay5, k0_pay6, k0_pay8, k0_pay9, k0_pay10]
  exact layerNorm_of _ g b a (fun k => pay_post h0 h1 h2 h3 r k) (h6 a) (h7 a)

include h0 h5 in
/-- The router's logits. -/
theorem out0_12_apply (r : Fin 1024) (e : Fin 8) :
    out0_12 x0 x1 x2 x3 x4 x5 x6 x7 (ix2 r e) = ((dot (X r) (R e) : ℝ) : EReal) := by
  unfold out0_12
  rw [View.canon_unit_zero (h := offset2)]
  pointwise [k0_pay1, k0_pay2, k0_pay15]
  simp only [h0, h5, dot_coe]

end Cert.Moe

end
-- ==== Proof.Block.lean ====
/- Windows over whole arrays: where an element of a block lies in the array, and an output array from its blocks. -/
module

public import Idealize.ShloMosaic.Lib.Pipeline.Value

@[expose] public section

noncomputable section

namespace Cert.Moe

open Idealize.ShloMosaic Idealize.ShloMosaic.TcCoe Idealize.SL.Sem Idealize.SL.RA
open Idealize.ShloMosaic.Pipeline (Dat Window Grid Cfg)

/-- An element of the block at a point lies at the block index times the block's size plus its own coordinate. -/
theorem block_emb {sig : RefSig} {G : Grid} (w : Window sig G) (t : Fin G.N) (y : (w.xblock (G.coords t)).Idx) (i : w.shape.Idx)
    (h : ∀ a, w.index t a * w.size a + (y a : ℕ) = (i a : ℕ)) (hk : w.kind = .blocked := by rfl) :
    (w.rect t).emb y = i :=
  funext fun a => Fin.ext ((w.rect_emb_val t y a hk).trans (h a))

/-- At block index zero on every axis it keeps its coordinates. -/
theorem block_emb_fixed {sig : RefSig} {G : Grid} (w : Window sig G) (t : Fin G.N) (y : (w.xblock (G.coords t)).Idx) (i : w.shape.Idx)
    (h : ∀ a, w.index t a = 0) (hy : ∀ a, (y a : ℕ) = (i a : ℕ)) : (w.rect t).emb y = i :=
  funext fun a => Fin.ext ((w.rect_emb_val_of_index_zero t a (h a) y).trans (hy a))

section
variable {nD : Nat} {τ : Topo} {sig : RefSig} {Val : EltTy → Type}
variable {Ix : Type} [DecidableEq Ix] {Name : Type} [DecidableEq Name] {U : Type} [URA U] {Lvl : Type}
variable {Λ₀ : Labels} {cfg : Cfg sig Λ₀} {c : Dev nD} (dat : Dat τ Val Ix Name U Lvl cfg c)

/-- When every point writes back its block of one array `A` and the blocks cover it, the output ends as `A`. -/
theorem array_of_blocks (w : Fin cfg.W) (A : Buf Val ((cfg.win w).arr.view.loc (c.tc : Thread nD τ)))
    (hA : ∀ t, dat.flushed w t = ((cfg.win w).blk t).view.read Val A)
    (hc : ∀ i : ((cfg.win w).arr.view.loc (c.tc : Thread nD τ)).2.ty.Idx,
      ∃ t y, (cfg.win w).flush t = true ∧ ((cfg.win w).blk t).view.emb y = i) : dat.arrAt w cfg.N = A :=
  dat.arrAt_eq_of_cover w A (fun t _ => hA t) fun i => by
    obtain ⟨t, y, hf, rfl⟩ := hc i
    exact ⟨t, hf, View.emb_mem_set _ y⟩
end

end Cert.Moe

end
-- ==== Proof.Region0.lean ====
/- The arrays the first region leaves: each of its five outputs, read at a token, as the function of that token's row and
   of the weight arrays the region finds. -/
module

public import proofs.«01_k».proof.Proof.Stage1
public import proofs.«01_k».proof.Proof.Block

@[expose] public section

noncomputable section

namespace Cert.Moe

open Idealize.ShloMosaic Idealize.ShloMosaic.TcCoe Idealize.SL.Sem Cert.KernelIdeal Cert.KernelIdeal.Gen
open Idealize.ShloMosaic.Pipeline (Dat)

/-- Row `r` of block `t` among the 8192 tokens. -/
def tok (t : Fin grid0.N) (r : Fin 1024) : Fin 8192 :=
  ⟨t.val * 1024 + r.val, by have := t.isLt; have := N_0; omega⟩

/-- Every token is a row of some block. -/
theorem exists_tok (n : Fin 8192) : ∃ t r, n = tok t r := by
  have := N_0
  refine ⟨⟨n.val / 1024, by omega⟩, ⟨n.val % 1024, by omega⟩, Fin.ext ?_⟩
  show n.val = n.val / 1024 * 1024 + n.val % 1024
  omega

/-- The moving windows' block index at point `t` is `(t, 0)`. -/
theorem index0_moving : ∀ t : Fin grid0.N,
    (win0_0.index t 0 = t.val ∧ win0_0.index t 1 = 0) ∧ (win0_8.index t 0 = t.val ∧ win0_8.index t 1 = 0) ∧
    (win0_9.index t 0 = t.val ∧ win0_9.index t 1 = 0) ∧ (win0_10.index t 0 = t.val ∧ win0_10.index t 1 = 0) ∧
    (win0_11.index t 0 = t.val ∧ win0_11.index t 1 = 0) ∧ (win0_12.index t 0 = t.val ∧ win0_12.index t 1 = 0) := by
  decide +kernel

/-- The windows that stay have block index `(0, 0)`. -/
theorem index0_fixed : ∀ t : Fin grid0.N,
    (∀ a : Fin 2, win0_1.index t a = 0) ∧ (∀ a : Fin 2, win0_2.index t a = 0) ∧ (∀ a : Fin 2, win0_3.index t a = 0) ∧
    (∀ a : Fin 2, win0_4.index t a = 0) ∧ (∀ a : Fin 2, win0_5.index t a = 0) ∧ (∀ a : Fin 2, win0_6.index t a = 0) ∧
    (∀ a : Fin 2, win0_7.index t a = 0) := by
  decide +kernel

/-! ## Where a block's index lies in its array -/

/-- Row `r` of block `t` of an array over the tokens is the row of that token. -/
theorem row_at {t : Fin grid0.N} {n : ℕ} {s : Fin 2 → ℕ} (h : s 0 = t.val ∧ s 1 = 0) (r : Fin 1024) (k : Fin n) (a : Fin 2) :
    s a * (![1024, n] : Fin 2 → ℕ) a + ((ix2 r k : (⟨2, ![1024, n]⟩ : Shape).Idx) a : ℕ)
      = ((ix2 (tok t r) k : (⟨2, ![8192, n]⟩ : Shape).Idx) a : ℕ) := by
  match a with
  | ⟨0, _⟩ => show s 0 * 1024 + r.val = t.val * 1024 + r.val; rw [h.1]
  | ⟨1, _⟩ => show s 1 * n + k.val = k.val; rw [h.2]; omega

/-- An index of a block of the tokens' rows is that index of that token's row. -/
theorem emb0_0 (t : Fin grid0.N) (r : Fin 1024) (k : Fin 1024) :
    ((cfg0.win 0).blk t).view.emb (ix2 r k) = ix2 (tok t r) k :=
  block_emb win0_0 t _ _ (row_at (index0_moving t).1 r k)

/-- An index of a block of any of the five outputs is that index of that token's row. -/
theorem emb0_out (t : Fin grid0.N) (r : Fin 1024) :
    (∀ k : Fin 2048, ((cfg0.win 8).blk t).view.emb (ix2 r k) = ix2 (tok t r) k) ∧
    (∀ k : Fin 128, ((cfg0.win 9).blk t).view.emb (ix2 r k) = ix2 (tok t r) k) ∧
    (∀ k : Fin 128, ((cfg0.win 10).blk t).view.emb (ix2 r k) = ix2 (tok t r) k) ∧
    (∀ k : Fin 128, ((cfg0.win 11).blk t).view.emb (ix2 r k) = ix2 (tok t r) k) ∧
    (∀ k : Fin 8, ((cfg0.win 12).blk t).view.emb (ix2 r k) = ix2 (tok t r) k) := by
  obtain ⟨-, h8, h9, h10, h11, h12⟩ := index0_moving t
  refine ⟨fun k => block_emb win0_8 t _ _ (row_at h8 r k), fun k => block_emb win0_9 t _ _ (row_at h9 r k),
    fun k => block_emb win0_10 t _ _ (row_at h10 r k), fun k => block_emb win0_11 t _ _ (row_at h11 r k),
    fun k => block_emb win0_12 t _ _ (row_at h12 r k)⟩

/-- An array over the tokens from its rows. -/
def perToken {n : ℕ} (f : Fin 8192 → Fin n → ℝ) (i : (⟨2, ![8192, n]⟩ : Shape).Idx) : EReal := (f (i 0) (i 1) : EReal)

/-- Every index of such an array is in some point's block. -/
theorem covered {n : ℕ} (i : (⟨2, ![8192, n]⟩ : Shape).Idx) : ∃ t r k, ix2 (tok t r) k = i := by
  obtain ⟨t, r, h⟩ := exists_tok (i 0)
  exact ⟨t, r, i 1, by rw [← h]; exact (eq_ix2 i).symm⟩

/-! ## The five arrays -/

variable (V : (c : Dev nD) → (b : Ref sig .tc) → Buf (Elt Ideal) ((c : Thread nD τ).loc b)) (c : Dev nD)

/-- What the region finds: the tokens' rows and the weights, as reals. -/
structure Found0 (X : Fin 8192 → Fin 1024 → ℝ) (G U : Fin 2048 → Fin 1024 → ℝ) (P : Fin 128 → Fin 2048 → ℝ)
    (Q : Fin 128 → Fin 1024 → ℝ) (R : Fin 8 → Fin 1024 → ℝ) (g b : Fin 128 → ℝ) : Prop where
  x : ∀ n k, V c main_v0 (ix2 n k) = (X n k : EReal)
  gate : ∀ h k, V c main_v1 (ix2 h k) = (G h k : EReal)
  up : ∀ h k, V c main_v2 (ix2 h k) = (U h k : EReal)
  post : ∀ a h, V c main_v4 (ix2 a h) = (P a h : EReal)
  pre : ∀ a k, V c main_v5 (ix2 a k) = (Q a k : EReal)
  router : ∀ e k, V c main_v7 (ix2 e k) = (R e k : EReal)
  scale : ∀ a, V c main_v8 (ix2 0 a) = (g a : EReal)
  shift : ∀ a, V c main_v9 (ix2 0 a) = (b a : EReal)

variable {V c} {X : Fin 8192 → Fin 1024 → ℝ} {G U : Fin 2048 → Fin 1024 → ℝ} {P : Fin 128 → Fin 2048 → ℝ}
  {Q : Fin 128 → Fin 1024 → ℝ} {R : Fin 8 → Fin 1024 → ℝ} {g b : Fin 128 → ℝ} (F : Found0 V c X G U P Q R g b)
include F

/-- A point reads its block of the tokens' rows. -/
theorem Found0.read0 (t : Fin grid0.N) (r : Fin 1024) (k : Fin 1024) : iblk0 V c 0 t (ix2 r k) = (X (tok t r) k : EReal) := by
  show V c main_v0 (((cfg0.win 0).blk t).view.emb (ix2 r k)) = _
  rw [emb0_0]; exact F.x _ _

/-- A point reads the whole gate matrix. -/
theorem Found0.read1 (t : Fin grid0.N) (h : Fin 2048) (k : Fin 1024) : iblk0 V c 1 t (ix2 h k) = (G h k : EReal) :=
  (congrArg (V c main_v1) (block_emb_fixed win0_1 t _ (ix2 h k) (index0_fixed t).1 fun _ => rfl)).trans (F.gate h k)

/-- A point reads the whole up matrix. -/
theorem Found0.read2 (t : Fin grid0.N) (h : Fin 2048) (k : Fin 1024) : iblk0 V c 2 t (ix2 h k) = (U h k : EReal) :=
  (congrArg (V c main_v2) (block_emb_fixed win0_2 t _ (ix2 h k) (index0_fixed t).2.1 fun _ => rfl)).trans (F.up h k)

/-- A point reads the whole post-adapter matrix. -/
theorem Found0.read3 (t : Fin grid0.N) (a : Fin 128) (h : Fin 2048) : iblk0 V c 3 t (ix2 a h) = (P a h : EReal) :=
  (congrArg (V c main_v4) (block_emb_fixed win0_3 t _ (ix2 a h) (index0_fixed t).2.2.1 fun _ => rfl)).trans (F.post a h)

/-- A point reads the whole pre-adapter matrix. -/
theorem Found0.read4 (t : Fin grid0.N) (a : Fin 128) (k : Fin 1024) : iblk0 V c 4 t (ix2 a k) = (Q a k : EReal) :=
  (congrArg (V c main_v5) (block_emb_fixed win0_4 t _ (ix2 a k) (index0_fixed t).2.2.2.1 fun _ => rfl)).trans (F.pre a k)

/-- A point reads the whole router matrix. -/
theorem Found0.read5 (t : Fin grid0.N) (e : Fin 8) (k : Fin 1024) : iblk0 V c 5 t (ix2 e k) = (R e k : EReal) :=
  (congrArg (V c main_v7) (block_emb_fixed win0_5 t _ (ix2 e k) (index0_fixed t).2.2.2.2.1 fun _ => rfl)).trans (F.router e k)

/-- A point reads the normalisation's scale. -/
theorem Found0.read6 (t : Fin grid0.N) (a : Fin 128) : iblk0 V c 6 t (ix2 0 a) = (g a : EReal) :=
  (congrArg (V c main_v8) (block_emb_fixed win0_6 t _ (ix2 0 a) (index0_fixed t).2.2.2.2.2.1 fun _ => rfl)).trans (F.scale a)

/-- A point reads the normalisation's shift. -/
theorem Found0.read7 (t : Fin grid0.N) (a : Fin 128) : iblk0 V c 7 t (ix2 0 a) = (b a : EReal) :=
  (congrArg (V c main_v9) (block_emb_fixed win0_7 t _ (ix2 0 a) (index0_fixed t).2.2.2.2.2.2 fun _ => rfl)).trans (F.shift a)

/-- The array of the gated activations. -/
theorem Found0.hidden_array : (dat0 V c).arrAt 8 cfg0.N = perToken (fun n h => silu (dot (X n) (G h)) * dot (X n) (U h)) :=
  array_of_blocks (dat0 V c) 8 _
    (fun t => funext fun y => by
      obtain ⟨r, k, rfl⟩ : ∃ r k, y = ix2 r k := ⟨y 0, y 1, eq_ix2 y⟩
      exact (congrFun (after0_8 V c t) _).trans
        ((out0_8_apply (F.read0 t) (F.read1 t) (F.read2 t) r k).trans (congrArg (perToken (fun n h => silu (dot (X n) (G h)) * dot (X n) (U h))) ((emb0_out t r).1 k)).symm))
    fun i => by
      obtain ⟨t, r, k, h⟩ := covered i
      exact ⟨t, ix2 r k, flush0_8 t, ((emb0_out t r).1 k).trans h⟩

/-- The array of the tokens' projections. -/
theorem Found0.pre_array : (dat0 V c).arrAt 9 cfg0.N = perToken (fun n a => dot (X n) (Q a)) :=
  array_of_blocks (dat0 V c) 9 _
    (fun t => funext fun y => by
      obtain ⟨r, k, rfl⟩ : ∃ r k, y = ix2 r k := ⟨y 0, y 1, eq_ix2 y⟩
      exact (congrFun (after0_9 V c t) _).trans
        ((out0_9_apply (F.read0 t) (F.read4 t) r k).trans (congrArg (perToken (fun n a => dot (X n) (Q a))) ((emb0_out t r).2.1 k)).symm))
    fun i => by
      obtain ⟨t, r, k, h⟩ := covered i
      exact ⟨t, ix2 r k, flush0_9 t, ((emb0_out t r).2.1 k).trans h⟩

/-- The array of the tokens' normalised projections. -/
theorem Found0.ain_array : (dat0 V c).arrAt 10 cfg0.N = perToken (fun n => layerNorm (fun a => dot (X n) (Q a)) g b) :=
  array_of_blocks (dat0 V c) 10 _
    (fun t => funext fun y => by
      obtain ⟨r, k, rfl⟩ : ∃ r k, y = ix2 r k := ⟨y 0, y 1, eq_ix2 y⟩
      exact (congrFun (after0_10 V c t) _).trans
        ((out0_10_apply (F.read0 t) (F.read4 t) (F.read6 t) (F.read7 t) r k).trans (congrArg (perToken (fun n => layerNorm (fun a => dot (X n) (Q a)) g b)) ((emb0_out t r).2.2.1 k)).symm))
    fun i => by
      obtain ⟨t, r, k, h⟩ := covered i
      exact ⟨t, ix2 r k, flush0_10 t, ((emb0_out t r).2.2.1 k).trans h⟩

/-- The array of the activations' normalised projections. -/
theorem Found0.aout_array : (dat0 V c).arrAt 11 cfg0.N = perToken (fun n => layerNorm (fun a => dot (fun h => silu (dot (X n) (G h)) * dot (X n) (U h)) (P a)) g b) :=
  array_of_blocks (dat0 V c) 11 _
    (fun t => funext fun y => by
      obtain ⟨r, k, rfl⟩ : ∃ r k, y = ix2 r k := ⟨y 0, y 1, eq_ix2 y⟩
      exact (congrFun (after0_11 V c t) _).trans
        ((out0_11_apply (F.read0 t) (F.read1 t) (F.read2 t) (F.read3 t) (F.read6 t) (F.read7 t) r k).trans (congrArg (perToken (fun n => layerNorm (fun a => dot (fun h => silu (dot (X n) (G h)) * dot (X n) (U h)) (P a)) g b)) ((emb0_out t r).2.2.2.1 k)).symm))
    fun i => by
      obtain ⟨t, r, k, h⟩ := covered i
      exact ⟨t, ix2 r k, flush0_11 t, ((emb0_out t r).2.2.2.1 k).trans h⟩

/-- The array of the router's logits. -/
theorem Found0.logits_array : (dat0 V c).arrAt 12 cfg0.N = perToken (fun n e => dot (X n) (R e)) :=
  array_of_blocks (dat0 V c) 12 _
    (fun t => funext fun y => by
      obtain ⟨r, k, rfl⟩ : ∃ r k, y = ix2 r k := ⟨y 0, y 1, eq_ix2 y⟩
      exact (congrFun (after0_12 V c t) _).trans
        ((out0_12_apply (F.read0 t) (F.read5 t) r k).trans (congrArg (perToken (fun n e => dot (X n) (R e))) ((emb0_out t r).2.2.2.2 k)).symm))
    fun i => by
      obtain ⟨t, r, k, h⟩ := covered i
      exact ⟨t, ix2 r k, flush0_12 t, ((emb0_out t r).2.2.2.2 k).trans h⟩

end Cert.Moe

end
-- ==== Proof.Stage2.lean ====
/- What the second launch computes: the products of the two pairs of projection matrices. -/
module

public import proofs.«01_k».proof.Proof.Coe
public import proofs.«01_k».proof.Proof.Gen.KernelIdeal.Frame

@[expose] public section

noncomputable section

namespace Cert.Moe

open Idealize.ShloMosaic Cert.KernelIdeal Cert.KernelIdeal.Gen

variable {x0 x2 : Vec Ideal S2048x128 .f32} {x1 x3 : Vec Ideal S1024x2048 .f32} {B : Fin 2048 → Fin 128 → ℝ}
  {M : Fin 1024 → Fin 2048 → ℝ}

/-- The product of the experts' projections. -/
theorem out1_4_apply (hB : ∀ h a, x0 (ix2 h a) = (B h a : EReal)) (hM : ∀ d h, x1 (ix2 d h) = (M d h : EReal))
    (d : Fin 1024) (a : Fin 128) : out1_4 x0 x1 x2 x3 (ix2 d a) = ((∑ h, M d h * B h a : ℝ) : EReal) := by
  unfold out1_4
  rw [View.canon_unit_zero (h := offset2)]
  pointwise [k1_pay1]
  simp only [hM, hB, dot_coe (M d) (fun h => B h a)]; rfl

/-- The product of the down projection and the adapter's. -/
theorem out1_5_apply (hB : ∀ h a, x2 (ix2 h a) = (B h a : EReal)) (hM : ∀ d h, x3 (ix2 d h) = (M d h : EReal))
    (d : Fin 1024) (a : Fin 128) : out1_5 x0 x1 x2 x3 (ix2 d a) = ((∑ h, M d h * B h a : ℝ) : EReal) := by
  unfold out1_5
  rw [View.canon_unit_zero (h := offset2)]
  pointwise [k1_pay2]
  simp only [hM, hB, dot_coe (M d) (fun h => B h a)]; rfl

end Cert.Moe

end
-- ==== Proof.Region1.lean ====
/- The arrays the second region leaves: the two products of projection matrices. -/
module

public import proofs.«01_k».proof.Proof.Stage2
public import proofs.«01_k».proof.Proof.Block

@[expose] public section

noncomputable section

namespace Cert.Moe

open Idealize.ShloMosaic Idealize.ShloMosaic.TcCoe Idealize.SL.Sem Cert.KernelIdeal Cert.KernelIdeal.Gen

/-- Every window of the one point has block index zero. -/
theorem index1_fixed : ∀ t : Fin grid1.N,
    (∀ a : Fin 2, win1_0.index t a = 0) ∧ (∀ a : Fin 2, win1_1.index t a = 0) ∧ (∀ a : Fin 2, win1_2.index t a = 0) ∧
    (∀ a : Fin 2, win1_3.index t a = 0) ∧ (∀ a : Fin 2, win1_4.index t a = 0) ∧ (∀ a : Fin 2, win1_5.index t a = 0) := by
  decide +kernel

/-- Each output's one block is the whole array. -/
theorem emb1_out (t : Fin grid1.N) :
    (∀ y : S1024x128.Idx, ((cfg1.win 4).blk t).view.emb y = y) ∧ (∀ y : S1024x128.Idx, ((cfg1.win 5).blk t).view.emb y = y) :=
  ⟨fun y => block_emb_fixed win1_4 t y y (index1_fixed t).2.2.2.2.1 fun _ => rfl,
   fun y => block_emb_fixed win1_5 t y y (index1_fixed t).2.2.2.2.2 fun _ => rfl⟩

variable (V : (c : Dev nD) → (b : Ref sig .tc) → Buf (Elt Ideal) ((c : Thread nD τ).loc b)) (c : Dev nD)

/-- What the region finds: the four matrices, as reals. -/
structure Found1 (B B' : Fin 2048 → Fin 128 → ℝ) (M M' : Fin 1024 → Fin 2048 → ℝ) : Prop where
  inner : ∀ h a, V c main_arg12 (ix2 h a) = (B h a : EReal)
  outer : ∀ d h, V c main_arg13 (ix2 d h) = (M d h : EReal)
  inner' : ∀ h a, V c main_arg8 (ix2 h a) = (B' h a : EReal)
  outer' : ∀ d h, V c main_arg3 (ix2 d h) = (M' d h : EReal)

/-- The array of a product of two matrices. -/
def product (M : Fin 1024 → Fin 2048 → ℝ) (B : Fin 2048 → Fin 128 → ℝ) (i : S1024x128.Idx) : EReal :=
  ((∑ h, M (i 0) h * B h (i 1) : ℝ) : EReal)

variable {V c} {B B' : Fin 2048 → Fin 128 → ℝ} {M M' : Fin 1024 → Fin 2048 → ℝ} (F : Found1 V c B B' M M')
include F

/-- The point reads the experts' inner projection. -/
theorem Found1.read0 (t : Fin grid1.N) (h : Fin 2048) (a : Fin 128) : iblk1 V c 0 t (ix2 h a) = (B h a : EReal) :=
  (congrArg (V c main_arg12) (block_emb_fixed win1_0 t _ (ix2 h a) (index1_fixed t).1 fun _ => rfl)).trans (F.inner h a)

/-- The point reads the experts' outer projection. -/
theorem Found1.read1 (t : Fin grid1.N) (d : Fin 1024) (h : Fin 2048) : iblk1 V c 1 t (ix2 d h) = (M d h : EReal) :=
  (congrArg (V c main_arg13) (block_emb_fixed win1_1 t _ (ix2 d h) (index1_fixed t).2.1 fun _ => rfl)).trans (F.outer d h)

/-- The point reads the adapter's projection. -/
theorem Found1.read2 (t : Fin grid1.N) (h : Fin 2048) (a : Fin 128) : iblk1 V c 2 t (ix2 h a) = (B' h a : EReal) :=
  (congrArg (V c main_arg8) (block_emb_fixed win1_2 t _ (ix2 h a) (index1_fixed t).2.2.1 fun _ => rfl)).trans (F.inner' h a)

/-- The point reads the down matrix. -/
theorem Found1.read3 (t : Fin grid1.N) (d : Fin 1024) (h : Fin 2048) : iblk1 V c 3 t (ix2 d h) = (M' d h : EReal) :=
  (congrArg (V c main_arg3) (block_emb_fixed win1_3 t _ (ix2 d h) (index1_fixed t).2.2.2.1 fun _ => rfl)).trans (F.outer' d h)

/-- The product of the experts' projections. -/
theorem Found1.experts_array : (dat1 V c).arrAt 4 cfg1.N = product M B :=
  array_of_blocks (dat1 V c) 4 _
    (fun t => funext fun y => by
      obtain ⟨d, a, rfl⟩ : ∃ d a, y = ix2 d a := ⟨y 0, y 1, eq_ix2 y⟩
      exact (congrFun (after1_4 V c t) _).trans
        ((out1_4_apply (F.read0 t) (F.read1 t) d a).trans (congrArg (product M B) ((emb1_out t).1 (ix2 d a))).symm))
    fun i => ⟨t1_0, i, flush1_4 t1_0, (emb1_out t1_0).1 i⟩

/-- The product of the down projection and the adapter's. -/
theorem Found1.adapter_array : (dat1 V c).arrAt 5 cfg1.N = product M' B' :=
  array_of_blocks (dat1 V c) 5 _
    (fun t => funext fun y => by
      obtain ⟨d, a, rfl⟩ : ∃ d a, y = ix2 d a := ⟨y 0, y 1, eq_ix2 y⟩
      exact (congrFun (after1_5 V c t) _).trans
        ((out1_5_apply (F.read2 t) (F.read3 t) d a).trans (congrArg (product M' B') ((emb1_out t).2 (ix2 d a))).symm))
    fun i => ⟨t1_0, i, flush1_5 t1_0, (emb1_out t1_0).2 i⟩

end Cert.Moe

end
-- ==== Proof.Rank.lean ====
/- Counting the entries that come before an entry of four, by comparisons. -/
module

public import proofs.«01_k».proof.Proof.Coe

@[expose] public section

noncomputable section

namespace Cert.Moe

open Idealize.ShloMosaic

/-- One for a comparison that holds, zero for one that does not. -/
def ind (c : Prop) [Decidable c] : ℝ := if c then 1 else 0

/-- A comparison's bit, widened and converted. -/
theorem ind_coe (c : Prop) [Decidable c] :
    FloatOps.sitofp (F := Ideal) .f32 (BitVec.setWidth 32 (BitVec.ofBool (decide c))) = ((ind c : ℝ) : EReal) := by
  show (((BitVec.setWidth 32 (BitVec.ofBool (decide c))).toInt : ℝ) : EReal) = _
  unfold ind
  by_cases h : c <;> simp [h]

/-- The rank as a sum of comparisons. -/
theorem rank_cast {n : ℕ} (l : Fin n → ℝ) (j : Fin n) : (rank l j : ℝ) = ∑ m, ind (Beats l m j) := by
  unfold rank ind
  rw [Finset.card_filter, Nat.cast_sum]
  exact Finset.sum_congr rfl fun m _ => by split <;> simp

/-- Equivalent statements have equal indicators. -/
theorem ind_congr {c d : Prop} [Decidable c] [Decidable d] (h : c ↔ d) : ind c = ind d := by
  unfold ind; by_cases hc : c
  · rw [if_pos hc, if_pos (h.mp hc)]
  · rw [if_neg hc, if_neg (fun hd => hc (h.mpr hd))]

/-- An entry does not come before itself. -/
theorem beats_self {n : ℕ} (l : Fin n → ℝ) (j : Fin n) : ind (Beats l j j) = 0 := by
  unfold ind; rw [if_neg]; rintro (h | ⟨-, h⟩) <;> exact lt_irrefl _ h

/-- A later entry comes before `j` when it is larger. -/
theorem beats_later {n : ℕ} (l : Fin n → ℝ) {m j : Fin n} (h : j < m) : ind (Beats l m j) = ind (l j < l m) :=
  ind_congr ⟨fun hb => hb.elim id fun hb => absurd hb.2 (not_lt.mpr h.le), Or.inl⟩

/-- An earlier entry comes before `j` when it is not smaller. -/
theorem beats_earlier {n : ℕ} (l : Fin n → ℝ) {m j : Fin n} (h : m < j) : ind (Beats l m j) = ind (l j ≤ l m) :=
  ind_congr ⟨fun hb => hb.elim le_of_lt fun hb => hb.1.le, fun hb => hb.lt_or_eq.imp id fun e => ⟨e, h⟩⟩

variable (l : Fin 4 → ℝ)

/-- The first of four: how many of the later ones exceed it. -/
theorem rank_zero : (rank l 0 : ℝ) = ind (l 0 < l 1) + ind (l 0 < l 2) + ind (l 0 < l 3) := by
  rw [rank_cast, Fin.sum_univ_four, beats_self, beats_later l (by decide : (0 : Fin 4) < 1),
    beats_later l (by decide : (0 : Fin 4) < 2), beats_later l (by decide : (0 : Fin 4) < 3), zero_add]

/-- The second of four: whether the first is at least it, and how many of the later ones exceed it. -/
theorem rank_one : (rank l 1 : ℝ) = ind (l 1 ≤ l 0) + ind (l 1 < l 2) + ind (l 1 < l 3) := by
  rw [rank_cast, Fin.sum_univ_four, beats_self, beats_earlier l (by decide : (0 : Fin 4) < 1),
    beats_later l (by decide : (1 : Fin 4) < 2), beats_later l (by decide : (1 : Fin 4) < 3), add_zero]

/-- The third of four: how many of the earlier ones are at least it, and whether the last exceeds it. -/
theorem rank_two : (rank l 2 : ℝ) = ind (l 2 ≤ l 0) + ind (l 2 ≤ l 1) + ind (l 2 < l 3) := by
  rw [rank_cast, Fin.sum_univ_four, beats_self, beats_earlier l (by decide : (0 : Fin 4) < 2),
    beats_earlier l (by decide : (1 : Fin 4) < 2), beats_later l (by decide : (2 : Fin 4) < 3), add_zero]

/-- The last of four: how many of the earlier ones are at least it. -/
theorem rank_three : (rank l 3 : ℝ) = ind (l 3 ≤ l 0) + ind (l 3 ≤ l 1) + ind (l 3 ≤ l 2) := by
  rw [rank_cast, Fin.sum_univ_four, beats_self, beats_earlier l (by decide : (0 : Fin 4) < 3),
    beats_earlier l (by decide : (1 : Fin 4) < 3), beats_earlier l (by decide : (2 : Fin 4) < 3), add_zero]

/-- The entry times the comparison of its rank with two is the entry if it is selected. -/
theorem top2_mask {n : ℕ} (l : Fin n → ℝ) (j : Fin n) : l j * ind ((rank l j : ℝ) < 2) = top2 l j := by
  unfold ind top2
  have h : ((rank l j : ℝ) < 2) ↔ rank l j < 2 := by exact_mod_cast Iff.rfl
  by_cases hr : rank l j < 2
  · rw [if_pos (h.mpr hr), if_pos hr, mul_one]
  · rw [if_neg (fun h' => hr (h.mp h')), if_neg hr, mul_zero]

end Cert.Moe

end
-- ==== Proof.Router.lean ====
/- The router in the third launch: the groups' and the experts' probabilities, the selection of two experts, and the eight
   weights, at one token of the block. -/
module

public import proofs.«01_k».proof.Proof.Rank
public import proofs.«01_k».proof.Proof.Gen.KernelIdeal.Frame
import Mathlib.Tactic.Ring

@[expose] public section

noncomputable section

namespace Cert.Moe

open Idealize.ShloMosaic Cert.KernelIdeal Cert.KernelIdeal.Gen

/-! ### The probabilities -/

section Probabilities
variable {x : Vec Ideal S1x1024x8 .f32} {L : Fin 8 → ℝ} {r : Fin 1024} (hx : ∀ e, x (ix3 0 r e) = (L e : EReal))

/-- The groups' probabilities, from a token's eight logits. -/
def groupProb (L : Fin 8 → ℝ) : Fin 2 → ℝ := softmax fun i => L ⟨i.val, by omega⟩

/-- The experts' probabilities, from a token's eight logits. -/
def expertProb (L : Fin 8 → ℝ) : Fin 4 → ℝ := softmax fun j => L ⟨2 + j.val, by omega⟩

include hx in
/-- The groups' softmax. -/
theorem pay_group (i : Fin 2) : k2_pay4 (F := Ideal) x (ix2 r i) = ((groupProb L i : ℝ) : EReal) := by
  pointwise [k2_pay4, k2_pay3]
  exact softmax_of (p := fun i : Fin 2 => x (ix3 0 r ⟨i.val, by omega⟩)) _ i (fun k => hx _)

include hx in
/-- The experts' softmax. -/
theorem pay_local (i : Fin 4) : k2_pay10 (F := Ideal) (k2_pay9 x) (ix2 r i) = ((expertProb L i : ℝ) : EReal) := by
  pointwise [k2_pay10, k2_pay9, k2_pay3]
  exact softmax_of (p := fun i : Fin 4 => x (ix3 0 r ⟨2 + i.val, by omega⟩)) _ i (fun k => hx _)

include hx in
/-- Whether the second group is chosen. -/
theorem pay_second : k2_pay7 (F := Ideal) x (ix2 r 0) = ((ind (groupProb L 0 < groupProb L 1) : ℝ) : EReal) := by
  pointwise [k2_pay7, k2_pay5, k2_pay6]
  simp only [pay_group hx, EReal.coe_lt_coe_iff, ind_coe]

include hx in
/-- The chosen group's probability. -/
theorem pay_chosen : k2_pay8 (F := Ideal) x (ix2 r 0) = ((max (groupProb L 0) (groupProb L 1) : ℝ) : EReal) := by
  pointwise [k2_pay8, k2_pay5, k2_pay6]
  simp only [pay_group hx, max_coe]

end Probabilities

/-! ### The selection -/

section Selection
variable {v : FVec Ideal S1024x4 .f32} {l : Fin 4 → ℝ} {r : Fin 1024}
  (hv : ∀ j, k2_pay10 v (ix2 r j) = (l j : EReal))

include hv in
/-- The first expert's probability. -/
theorem pay_col0 : k2_pay11 v (ix2 r 0) = (l 0 : EReal) := by pointwise [k2_pay11]; exact hv 0
include hv in
/-- The second expert's probability. -/
theorem pay_col1 : k2_pay12 v (ix2 r 0) = (l 1 : EReal) := by pointwise [k2_pay12]; exact hv 1
include hv in
/-- The third expert's probability. -/
theorem pay_col2 : k2_pay13 v (ix2 r 0) = (l 2 : EReal) := by pointwise [k2_pay13]; exact hv 2
include hv in
/-- The fourth expert's probability. -/
theorem pay_col3 : k2_pay14 v (ix2 r 0) = (l 3 : EReal) := by pointwise [k2_pay14]; exact hv 3

include hv in
/-- The first expert's entry if selected. -/
theorem pay_sel0 : k2_pay19 (k2_pay11 v) (k2_pay15 v) (ix2 r 0) = ((top2 l 0 : ℝ) : EReal) := by
  pointwise [k2_pay19, k2_pay15]
  simp only [pay_col0 hv, pay_col1 hv, pay_col2 hv, pay_col3 hv, EReal.coe_lt_coe_iff, ind_coe, ofBits_two, ← EReal.coe_add,
    ← EReal.coe_mul, ← rank_zero, top2_mask]

include hv in
/-- The second expert's entry if selected. -/
theorem pay_sel1 : k2_pay20 (k2_pay12 v) (k2_pay16 v) (ix2 r 0) = ((top2 l 1 : ℝ) : EReal) := by
  pointwise [k2_pay20, k2_pay16]
  simp only [pay_col0 hv, pay_col1 hv, pay_col2 hv, pay_col3 hv, EReal.coe_lt_coe_iff, EReal.coe_le_coe_iff, ind_coe, ofBits_two,
    ← EReal.coe_add, ← EReal.coe_mul, ← rank_one, top2_mask]

include hv in
/-- The third expert's entry if selected. -/
theorem pay_sel2 : k2_pay21 (k2_pay13 v) (k2_pay17 v) (k2_pay18 v) (ix2 r 0) = ((top2 l 2 : ℝ) : EReal) := by
  pointwise [k2_pay21, k2_pay17, k2_pay18]
  simp only [pay_col0 hv, pay_col1 hv, pay_col2 hv, pay_col3 hv, EReal.coe_lt_coe_iff, EReal.coe_le_coe_iff, ind_coe, ofBits_two,
    ← EReal.coe_add, ← EReal.coe_mul, ← rank_two, top2_mask]

include hv in
/-- The fourth expert's entry if selected. -/
theorem pay_sel3 : k2_pay22 (k2_pay11 v) (k2_pay12 v) (k2_pay13 v) (k2_pay14 v) (ix2 r 0) = ((top2 l 3 : ℝ) : EReal) := by
  pointwise [k2_pay22]
  simp only [pay_col0 hv, pay_col1 hv, pay_col2 hv, pay_col3 hv, EReal.coe_lt_coe_iff, EReal.coe_le_coe_iff, ind_coe, ofBits_two,
    ← EReal.coe_add, ← EReal.coe_mul, ← rank_three, top2_mask]

end Selection

/-! ### The weights -/

/-- A selected entry times the chosen probability over the selected sum, in the first group. -/
theorem weight_first (p : Fin 2 → ℝ) (l : Fin 4 → ℝ) (j : Fin 4) :
    top2 l j * (max (p 0) (p 1) / (top2 l 0 + top2 l 1 + top2 l 2 + top2 l 3 + epsSel)) * (1 - ind (p 0 < p 1))
      = weight p l ⟨j.val, by omega⟩ := by
  unfold weight group ind
  have hd : j.val / 4 = 0 := by omega
  have hm : (⟨j.val % 4, Nat.mod_lt _ (by decide)⟩ : Fin 4) = j := Fin.ext (Nat.mod_eq_of_lt j.isLt)
  rw [Fin.sum_univ_four]
  simp only [hd, hm]
  by_cases h : p 0 < p 1
  · simp [h]
  · simp only [h, if_false, if_true]; ring

/-- A selected entry times the chosen probability over the selected sum, in the second group. -/
theorem weight_second (p : Fin 2 → ℝ) (l : Fin 4 → ℝ) (j : Fin 4) :
    top2 l j * (max (p 0) (p 1) / (top2 l 0 + top2 l 1 + top2 l 2 + top2 l 3 + epsSel)) * ind (p 0 < p 1)
      = weight p l ⟨4 + j.val, by omega⟩ := by
  unfold weight group ind
  have hd : (4 + j.val) / 4 = 1 := by omega
  have hm : (⟨(4 + j.val) % 4, Nat.mod_lt _ (by decide)⟩ : Fin 4) = j := Fin.ext (by show (4 + j.val) % 4 = j.val; omega)
  rw [Fin.sum_univ_four]
  simp only [hd, hm]
  by_cases h : p 0 < p 1
  · simp only [h, if_true]; ring
  · simp [h]

section Weights
variable {v32 v33 v44 v45 v46 v47 v64 v81 v90 : FVec Ideal S1024x1 .f32} {v92 : IVec S1024x1 32} {r : Fin 1024}
  {p : Fin 2 → ℝ} {l : Fin 4 → ℝ} (hl : ∀ j, 0 ≤ l j)
  (h32 : v32 (ix2 r 0) = ((ind (p 0 < p 1) : ℝ) : EReal)) (h33 : v33 (ix2 r 0) = ((max (p 0) (p 1) : ℝ) : EReal))
  (s0 : k2_pay19 v44 v64 (ix2 r 0) = ((top2 l 0 : ℝ) : EReal)) (s1 : k2_pay20 v45 v81 (ix2 r 0) = ((top2 l 1 : ℝ) : EReal))
  (s2 : k2_pay21 v46 v90 v92 (ix2 r 0) = ((top2 l 2 : ℝ) : EReal))
  (s3 : k2_pay22 v44 v45 v46 v47 (ix2 r 0) = ((top2 l 3 : ℝ) : EReal))

include hl h33 s0 s1 s2 s3 in
/-- The chosen probability over the selected sum. -/
theorem pay_share : k2_pay23 v33 v44 v45 v46 v47 v64 v81 v90 v92 (ix2 r 0)
    = ((max (p 0) (p 1) / (top2 l 0 + top2 l 1 + top2 l 2 + top2 l 3 + epsSel) : ℝ) : EReal) := by
  have hne : top2 l 0 + top2 l 1 + top2 l 2 + top2 l 3 + epsSel ≠ 0 :=
    (add_pos_of_nonneg_of_pos (add_nonneg (add_nonneg (add_nonneg (top2_nonneg l hl 0) (top2_nonneg l hl 1))
      (top2_nonneg l hl 2)) (top2_nonneg l hl 3)) epsSel_pos).ne'
  pointwise [k2_pay23]
  simp only [h33, s0, s1, s2, s3, ofBits_epsSel, ← EReal.coe_add, div_coe hne]

include h32 in
/-- The indicator that the first group is chosen. -/
theorem pay_notSecond : k2_pay28 v32 (ix2 r 0) = ((1 - ind (p 0 < p 1) : ℝ) : EReal) := by
  pointwise [k2_pay28]
  rw [h32, EReal.coe_sub, EReal.coe_one]

include hl h32 h33 s0 s1 s2 s3

/-- The weight of expert 0. -/
theorem pay_w0 : k2_pay29 v32 v33 v44 v45 v46 v47 v64 v81 v90 v92 (ix2 r 0) = ((weight p l 0 : ℝ) : EReal) := by
  pointwise [k2_pay29, k2_pay24]
  rw [s0, pay_share hl h33 s0 s1 s2 s3, pay_notSecond h32, ← EReal.coe_mul, ← EReal.coe_mul]; exact congrArg _ (weight_first p l 0)
/-- The weight of expert 1. -/
theorem pay_w1 : k2_pay30 v32 v33 v44 v45 v46 v47 v64 v81 v90 v92 (ix2 r 0) = ((weight p l 1 : ℝ) : EReal) := by
  pointwise [k2_pay30, k2_pay25]
  rw [s1, pay_share hl h33 s0 s1 s2 s3, pay_notSecond h32, ← EReal.coe_mul, ← EReal.coe_mul]; exact congrArg _ (weight_first p l 1)
/-- The weight of expert 2. -/
theorem pay_w2 : k2_pay31 v32 v33 v44 v45 v46 v47 v64 v81 v90 v92 (ix2 r 0) = ((weight p l 2 : ℝ) : EReal) := by
  pointwise [k2_pay31, k2_pay26]
  rw [s2, pay_share hl h33 s0 s1 s2 s3, pay_notSecond h32, ← EReal.coe_mul, ← EReal.coe_mul]; exact congrArg _ (weight_first p l 2)
/-- The weight of expert 3. -/
theorem pay_w3 : k2_pay32 v32 v33 v44 v45 v46 v47 v64 v81 v90 v92 (ix2 r 0) = ((weight p l 3 : ℝ) : EReal) := by
  pointwise [k2_pay32, k2_pay27]
  rw [s3, pay_share hl h33 s0 s1 s2 s3, pay_notSecond h32, ← EReal.coe_mul, ← EReal.coe_mul]; exact congrArg _ (weight_first p l 3)
/-- The weight of expert 4. -/
theorem pay_w4 : k2_pay33 v32 v33 v44 v45 v46 v47 v64 v81 v90 v92 (ix2 r 0) = ((weight p l 4 : ℝ) : EReal) := by
  pointwise [k2_pay33, k2_pay24]
  rw [s0, pay_share hl h33 s0 s1 s2 s3, h32, ← EReal.coe_mul, ← EReal.coe_mul]; exact congrArg _ (weight_second p l 0)
/-- The weight of expert 5. -/
theorem pay_w5 : k2_pay34 v32 v33 v44 v45 v46 v47 v64 v81 v90 v92 (ix2 r 0) = ((weight p l 5 : ℝ) : EReal) := by
  pointwise [k2_pay34, k2_pay25]
  rw [s1, pay_share hl h33 s0 s1 s2 s3, h32, ← EReal.coe_mul, ← EReal.coe_mul]; exact congrArg _ (weight_second p l 1)
/-- The weight of expert 6. -/
theorem pay_w6 : k2_pay35 v32 v33 v44 v45 v46 v47 v64 v81 v90 v92 (ix2 r 0) = ((weight p l 6 : ℝ) : EReal) := by
  pointwise [k2_pay35, k2_pay26]
  rw [s2, pay_share hl h33 s0 s1 s2 s3, h32, ← EReal.coe_mul, ← EReal.coe_mul]; exact congrArg _ (weight_second p l 2)
/-- The weight of expert 7. -/
theorem pay_w7 : k2_pay36 v32 v33 v44 v45 v46 v47 v64 v81 v90 v92 (ix2 r 0) = ((weight p l 7 : ℝ) : EReal) := by
  pointwise [k2_pay36, k2_pay27]
  rw [s3, pay_share hl h33 s0 s1 s2 s3, h32, ← EReal.coe_mul, ← EReal.coe_mul]; exact congrArg _ (weight_second p l 3)

/-- The sum of the weights. -/
theorem pay_total : k2_pay37 v32 v33 v44 v45 v46 v47 v64 v81 v90 v92 (ix2 r 0) = ((∑ e, weight p l e : ℝ) : EReal) := by
  pointwise [k2_pay37]
  rw [pay_w0 hl h32 h33 s0 s1 s2 s3, pay_w1 hl h32 h33 s0 s1 s2 s3, pay_w2 hl h32 h33 s0 s1 s2 s3, pay_w3 hl h32 h33 s0 s1 s2 s3,
    pay_w4 hl h32 h33 s0 s1 s2 s3, pay_w5 hl h32 h33 s0 s1 s2 s3, pay_w6 hl h32 h33 s0 s1 s2 s3, pay_w7 hl h32 h33 s0 s1 s2 s3,
    Fin.sum_univ_eight]
  simp only [EReal.coe_add]

end Weights

end Cert.Moe

end
-- ==== Proof.Experts.lean ====
/- The experts in the third launch: each adds its weight times its normalised vector to the running sum. -/
module

public import proofs.«01_k».proof.Proof.Coe
public import proofs.«01_k».proof.Proof.Gen.KernelIdeal.Frame

@[expose] public section

noncomputable section

namespace Cert.Moe

open Idealize.ShloMosaic Cert.KernelIdeal Cert.KernelIdeal.Gen

variable {r : Fin 1024} {p : Fin 128 → ℝ}

/-- An expert's vector before its normalisation. -/
theorem pre_dot {v : FVec Ideal S1024x128 .bf16} {m : Vec Ideal S1x128x128 .bf16} {W : Fin 128 → Fin 128 → ℝ}
    (hv : ∀ k, v (ix2 r k) = (p k : EReal)) (hm : ∀ a k, m (ix3 0 a k) = (W a k : EReal)) (a : Fin 128) :
    ∑ k, v (ix2 r k) * m (ix3 0 a k) = ((dot p (W a) : ℝ) : EReal) := by
  simp only [hv, hm, dot_coe]

variable {W W' : Fin 128 → Fin 128 → ℝ} {g b g' b' : Fin 128 → ℝ} {w w' u u' : FVec Ideal S1024x1 .f32}
  {acc : FVec Ideal S1024x128 .f32} {v : FVec Ideal S1024x128 .bf16} {x : Vec Ideal S1x1024x128 .bf16}
  {m m' : Vec Ideal S1x128x128 .bf16} {s t s' t' : Vec Ideal S1x128 .f32}
  (hv : ∀ k, v (ix2 r k) = (p k : EReal)) (hx : ∀ k, k2_pay38 x (ix2 r k) = (p k : EReal))
  (hm : ∀ a k, m (ix3 0 a k) = (W a k : EReal)) (hs : ∀ a, s (ix2 0 a) = (g a : EReal)) (ht : ∀ a, t (ix2 0 a) = (b a : EReal))
  (hm' : ∀ a k, m' (ix3 0 a k) = (W' a k : EReal)) (hs' : ∀ a, s' (ix2 0 a) = (g' a : EReal))
  (ht' : ∀ a, t' (ix2 0 a) = (b' a : EReal))

include hx hm hs ht in
/-- The first expert. -/
theorem pay_expert0 (a : Fin 128) : k2_pay39 w x m s t (ix2 r a)
    = w (ix2 r 0) * ((layerNorm (fun a => dot p (W a)) g b a : ℝ) : EReal) := by
  pointwise [k2_pay39]
  exact congrArg (w (ix2 r 0) * ·)
    (layerNorm_of (p := fun a => ∑ k, k2_pay38 x (ix2 r k) * m (ix3 0 a k)) _ g b a (pre_dot hx hm) (hs a) (ht a))

include hx hm hs ht in
/-- The second expert. -/
theorem pay_expert1 (a : Fin 128) : k2_pay41 w acc (k2_pay40 x m) s t (ix2 r a)
    = acc (ix2 r a) + w (ix2 r 0) * ((layerNorm (fun a => dot p (W a)) g b a : ℝ) : EReal) := by
  pointwise [k2_pay41, k2_pay40]
  exact congrArg (acc (ix2 r a) + w (ix2 r 0) * ·)
    (layerNorm_of (p := fun a => ∑ k, k2_pay38 x (ix2 r k) * m (ix3 0 a k)) _ g b a (pre_dot hx hm) (hs a) (ht a))

include hv hm hs ht hm' hs' ht' in
/-- The third and the fourth expert. -/
theorem pay_expert23 (a : Fin 128) : k2_pay46 w w' v acc s t (k2_pay44 v m) (k2_pay45 v m) (Scalar.ofBits .f32 0x3727C5AC#32) m' s' t' (ix2 r a)
    = acc (ix2 r a) + w (ix2 r 0) * ((layerNorm (fun a => dot p (W a)) g b a : ℝ) : EReal)
      + w' (ix2 r 0) * ((layerNorm (fun a => dot p (W' a)) g' b' a : ℝ) : EReal) := by
  pointwise [k2_pay46, k2_pay45, k2_pay44, k2_pay43, k2_pay42]
  exact congrArg₂ (acc (ix2 r a) + w (ix2 r 0) * · + w' (ix2 r 0) * ·)
    (layerNorm_of (p := fun a => ∑ k, v (ix2 r k) * m (ix3 0 a k)) _ g b a (pre_dot hv hm) (hs a) (ht a))
    (layerNorm_of (p := fun a => ∑ k, v (ix2 r k) * m' (ix3 0 a k)) _ g' b' a (pre_dot hv hm') (hs' a) (ht' a))

include hv hm hs ht in
/-- The fifth expert. -/
theorem pay_expert4 (a : Fin 128) : k2_pay48 w v acc (k2_pay47 m) s t (ix2 r a)
    = acc (ix2 r a) + w (ix2 r 0) * ((layerNorm (fun a => dot p (W a)) g b a : ℝ) : EReal) := by
  pointwise [k2_pay48, k2_pay47]
  exact congrArg (acc (ix2 r a) + w (ix2 r 0) * ·)
    (layerNorm_of (p := fun a => ∑ k, v (ix2 r k) * m (ix3 0 a k)) _ g b a (pre_dot hv hm) (hs a) (ht a))

include hv hm hs ht in
/-- The sixth expert. -/
theorem pay_expert5 (a : Fin 128) : k2_pay52 w acc (k2_pay49 v m) s t (k2_pay50 v m) (k2_pay51 v m) (ix2 r a)
    = acc (ix2 r a) + w (ix2 r 0) * ((layerNorm (fun a => dot p (W a)) g b a : ℝ) : EReal) := by
  pointwise [k2_pay52, k2_pay51, k2_pay50, k2_pay49]
  exact congrArg (acc (ix2 r a) + w (ix2 r 0) * ·)
    (layerNorm_of (p := fun a => ∑ k, v (ix2 r k) * m (ix3 0 a k)) _ g b a (pre_dot hv hm) (hs a) (ht a))

include hv hm hs ht hm' hs' ht' in
/-- The seventh and the eighth expert. -/
theorem pay_expert67 (a : Fin 128) : k2_pay55 w w' v acc (k2_pay53 v m s) (k2_pay54 t) m' s' t' (ix2 r a)
    = acc (ix2 r a) + w (ix2 r 0) * ((layerNorm (fun a => dot p (W a)) g b a : ℝ) : EReal)
      + w' (ix2 r 0) * ((layerNorm (fun a => dot p (W' a)) g' b' a : ℝ) : EReal) := by
  pointwise [k2_pay55, k2_pay54, k2_pay53]
  exact congrArg₂ (acc (ix2 r a) + w (ix2 r 0) * · + w' (ix2 r 0) * ·)
    (layerNorm_of (p := fun a => ∑ k, v (ix2 r k) * m (ix3 0 a k)) _ g b a (pre_dot hv hm) (hs a) (ht a))
    (layerNorm_of (p := fun a => ∑ k, v (ix2 r k) * m' (ix3 0 a k)) _ g' b' a (pre_dot hv hm') (hs' a) (ht' a))

end Cert.Moe

end
-- ==== Proof.Stage3.lean ====
/- What the third launch computes at one grid point: the output block of 1024 tokens, from the adapter's queries, keys and
   values, the hidden layer, the projected tokens, the router's logits and the weights. -/
module

public import proofs.«01_k».proof.Proof.Router
public import proofs.«01_k».proof.Proof.Experts

@[expose] public section

noncomputable section

namespace Cert.Moe

open Idealize.ShloMosaic Cert.KernelIdeal Cert.KernelIdeal.Gen

variable {x0 : Vec Ideal S1x1024x128 .bf16} {x1 x2 : Vec Ideal S1x2048x128 .bf16} {x3 : Vec Ideal S1x1024x2048 .bf16}
  {x4 : Vec Ideal S1024x2048 .bf16} {x5 : Vec Ideal S1x1024x128 .bf16} {x6 : Vec Ideal S1x1024x8 .f32}
  {x7 : Vec Ideal S8x128x128 .bf16} {x8 x9 : Vec Ideal S8x128 .f32} {x10 x11 : Vec Ideal S1024x128 .bf16}
  {Q : Fin 1024 → Fin 128 → ℝ} {K V : Fin 2048 → Fin 128 → ℝ} {H D : Fin 1024 → Fin 2048 → ℝ} {P : Fin 1024 → Fin 128 → ℝ}
  {L : Fin 1024 → Fin 8 → ℝ} {W : Fin 8 → Fin 128 → Fin 128 → ℝ} {g b : Fin 8 → Fin 128 → ℝ} {M N : Fin 1024 → Fin 128 → ℝ}
  (h0 : ∀ r a, x0 (ix3 0 r a) = (Q r a : EReal)) (h1 : ∀ t a, x1 (ix3 0 t a) = (K t a : EReal))
  (h2 : ∀ t a, x2 (ix3 0 t a) = (V t a : EReal)) (h3 : ∀ r h, x3 (ix3 0 r h) = (H r h : EReal))
  (h4 : ∀ d h, x4 (ix2 d h) = (D d h : EReal)) (h5 : ∀ r a, x5 (ix3 0 r a) = (P r a : EReal))
  (h6 : ∀ r e, x6 (ix3 0 r e) = (L r e : EReal)) (h7 : ∀ e a k, x7 (ix3 e a k) = (W e a k : EReal))
  (h8 : ∀ e a, x8 (ix2 e a) = (g e a : EReal)) (h9 : ∀ e a, x9 (ix2 e a) = (b e a : EReal))
  (h10 : ∀ d a, x10 (ix2 d a) = (M d a : EReal)) (h11 : ∀ d a, x11 (ix2 d a) = (N d a : EReal))

/-- The adapter's output at a token, from its query and all keys and values. -/
def adaptOf (q : Fin 128 → ℝ) (K V : Fin 2048 → Fin 128 → ℝ) (a : Fin 128) : ℝ :=
  ∑ t, silu (min 5 (max (-5) (dot q (K t)))) * V t a

include h0 h1 h2 in
/-- The adapter's payload. -/
theorem pay_adapt (r : Fin 1024) (a : Fin 128) :
    k2_pay2 (F := Ideal) (View.ld x0 r2_0) (View.ld x1 r2_1) (View.ld x2 r2_1) (ix2 r a) = ((adaptOf (Q r) K V a : ℝ) : EReal) := by
  pointwise [k2_pay2]
  simp only [h0, h1, h2, dot_coe, ofBits_five, ofBits_neg_five, max_coe, min_coe, silu_coe]
  rfl

include h3 h4 in
/-- The shared network's payload. -/
theorem pay_down (r d : Fin 1024) :
    k2_pay56 (F := Ideal) (View.ld x3 r2_19) (View.ld x4 r2_20) (ix2 r d) = ((dot (H r) (D d) : ℝ) : EReal) := by
  pointwise [k2_pay56]
  simp only [h3, h4, dot_coe]

/-- The weight of expert `e` from a token's logits. -/
def weightOf (L : Fin 8 → ℝ) (e : Fin 8) : ℝ := weight (groupProb L) (expertProb L) e

/-- The weighted sum of the experts' normalised vectors. -/
def mixture (L : Fin 8 → ℝ) (p : Fin 128 → ℝ) (W : Fin 8 → Fin 128 → Fin 128 → ℝ) (g b : Fin 8 → Fin 128 → ℝ) (a : Fin 128) : ℝ :=
  ∑ e, weightOf L e * layerNorm (fun a => dot p (W e a)) (g e) (b e) a

/-- The last payload: the shared output scaled by the weights' sum, plus the mixture's projection. -/
theorem pay_final {v15 : FVec Ideal S1024x128 .bf16} {v146 : FVec Ideal S1024x1 .f32} {v387 : FVec Ideal S1024x128 .f32}
    {v392 : FVec Ideal S1024x1024 .f32} {v393 v402 : Vec Ideal S1024x128 .bf16} {r d : Fin 1024} {A G M N : Fin 128 → ℝ} {S T : ℝ}
    (h15 : ∀ a, v15 (ix2 r a) = (A a : EReal)) (h146 : v146 (ix2 r 0) = (T : EReal)) (h387 : ∀ a, v387 (ix2 r a) = (G a : EReal))
    (h392 : v392 (ix2 r d) = (S : EReal)) (h393 : ∀ a, v393 (ix2 d a) = (N a : EReal)) (h402 : ∀ a, v402 (ix2 d a) = (M a : EReal)) :
    k2_pay1 v15 v146 v387 v392 v393 v402 (ix3 0 r d) = (((S + tenth * dot A N) * T + tenth * dot G M : ℝ) : EReal) := by
  pointwise [k2_pay1]
  simp only [h15, h146, h387, h392, h393, h402, dot_coe, ofBits_tenth, EReal.coe_mul, EReal.coe_add]

include h0 h1 h2 h3 h4 h5 h6 h7 h8 h9 h10 h11 in
/-- The output block. -/
theorem out2_12_apply (r d : Fin 1024) :
    out2_12 x0 x1 x2 x3 x4 x5 x6 x7 x8 x9 x10 x11 (ix3 0 r d)
      = (((dot (H r) (D d) + tenth * dot (adaptOf (Q r) K V) (N d)) * ∑ e, weightOf (L r) e
          + tenth * dot (mixture (L r) (P r) W g b) (M d) : ℝ) : EReal) := by
  have hl : ∀ e, View.ld x6 r2_2 (ix3 0 r e) = (L r e : EReal) := fun e => by pointwise; exact h6 r e
  have hp : ∀ j, 0 ≤ expertProb (L r) j := fun j => (softmax_pos _ j).le
  have hv := pay_local hl
  have h32 := pay_second hl
  have h33 := pay_chosen hl
  have s0 := pay_sel0 hv
  have s1 := pay_sel1 hv
  have s2 := pay_sel2 hv
  have s3 := pay_sel3 hv
  have hx : ∀ k, k2_pay38 (F := Ideal) (View.ld x5 r2_0) (ix2 r k) = (P r k : EReal) := fun k => by pointwise [k2_pay38]; exact h5 r k
  unfold_out out2_12
  rw [View.canon_unit_zero (h := offset3)]
  refine pay_final (pay_adapt h0 h1 h2 r) (pay_total hp h32 h33 s0 s1 s2 s3) (fun a => ?_) (pay_down h3 h4 r d)
    (fun a => by pointwise; exact h11 d a) (fun a => by pointwise; exact h10 d a)
  rw [pay_expert67 (m := View.ld x7 r2_15) (m' := View.ld x7 r2_17) (s := View.ld x8 r2_16) (t := View.ld x9 r2_16)
      (s' := View.ld x8 r2_18) (t' := View.ld x9 r2_18) hx
      (fun a k => by pointwise; exact h7 6 a k) (fun a => by pointwise; exact h8 6 a) (fun a => by pointwise; exact h9 6 a)
      (fun a k => by pointwise; exact h7 7 a k) (fun a => by pointwise; exact h8 7 a) (fun a => by pointwise; exact h9 7 a),
    pay_expert5 (m := View.ld x7 r2_13) (s := View.ld x8 r2_14) (t := View.ld x9 r2_14) hx
      (fun a k => by pointwise; exact h7 5 a k) (fun a => by pointwise; exact h8 5 a) (fun a => by pointwise; exact h9 5 a),
    pay_expert4 (m := View.ld x7 r2_11) (s := View.ld x8 r2_12) (t := View.ld x9 r2_12) hx
      (fun a k => by pointwise; exact h7 4 a k) (fun a => by pointwise; exact h8 4 a) (fun a => by pointwise; exact h9 4 a),
    pay_expert23 (m := View.ld x7 r2_7) (s := View.ld x8 r2_8) (t := View.ld x9 r2_8) (m' := View.ld x7 r2_9)
      (s' := View.ld x8 r2_10) (t' := View.ld x9 r2_10) hx
      (fun a k => by pointwise; exact h7 2 a k) (fun a => by pointwise; exact h8 2 a) (fun a => by pointwise; exact h9 2 a)
      (fun a k => by pointwise; exact h7 3 a k) (fun a => by pointwise; exact h8 3 a) (fun a => by pointwise; exact h9 3 a),
    pay_expert1 (m := View.ld x7 r2_5) (s := View.ld x8 r2_6) (t := View.ld x9 r2_6) hx
      (fun a k => by pointwise; exact h7 1 a k) (fun a => by pointwise; exact h8 1 a) (fun a => by pointwise; exact h9 1 a),
    pay_expert0 (m := View.ld x7 r2_3) (s := View.ld x8 r2_4) (t := View.ld x9 r2_4) hx
      (fun a k => by pointwise; exact h7 0 a k) (fun a => by pointwise; exact h8 0 a) (fun a => by pointwise; exact h9 0 a),
    pay_w0 hp h32 h33 s0 s1 s2 s3, pay_w1 hp h32 h33 s0 s1 s2 s3, pay_w2 hp h32 h33 s0 s1 s2 s3, pay_w3 hp h32 h33 s0 s1 s2 s3,
    pay_w4 hp h32 h33 s0 s1 s2 s3, pay_w5 hp h32 h33 s0 s1 s2 s3, pay_w6 hp h32 h33 s0 s1 s2 s3, pay_w7 hp h32 h33 s0 s1 s2 s3]
  unfold mixture weightOf
  rw [Fin.sum_univ_eight]
  simp only [← EReal.coe_mul, ← EReal.coe_add]

end Cert.Moe

end
-- ==== Proof.Region2.lean ====
/- The array the third region leaves: the kernel's result at a token, as the function of what the region finds. -/
module

public import proofs.«01_k».proof.Proof.Stage3
public import proofs.«01_k».proof.Proof.Block

@[expose] public section

noncomputable section

namespace Cert.Moe

open Idealize.ShloMosaic Idealize.ShloMosaic.TcCoe Idealize.SL.Sem Cert.KernelIdeal Cert.KernelIdeal.Gen

/-- The sequence a point works on. -/
def seqOf (t : Fin grid2.N) : Fin 4 := ⟨t.val / 2, by have := t.isLt; have := N_2; omega⟩

/-- The position of row `r` of the point's half of the sequence. -/
def posOf (t : Fin grid2.N) (r : Fin 1024) : Fin 2048 := ⟨t.val % 2 * 1024 + r.val, by omega⟩

/-- Every position of every sequence is a row of some point's half. -/
theorem exists_pos (b : Fin 4) (s : Fin 2048) : ∃ t r, b = seqOf t ∧ s = posOf t r := by
  have := N_2
  refine ⟨⟨b.val * 2 + s.val / 1024, by omega⟩, ⟨s.val % 1024, by omega⟩, Fin.ext ?_, Fin.ext ?_⟩
  · show b.val = (b.val * 2 + s.val / 1024) / 2
    omega
  · show s.val = (b.val * 2 + s.val / 1024) % 2 * 1024 + s.val % 1024
    omega

/-- The windows over half a sequence: the block index is the sequence and the half. -/
theorem index2_half : ∀ t : Fin grid2.N,
    (win2_0.index t 0 = t.val / 2 ∧ win2_0.index t 1 = t.val % 2 ∧ win2_0.index t 2 = 0) ∧
    (win2_3.index t 0 = t.val / 2 ∧ win2_3.index t 1 = t.val % 2 ∧ win2_3.index t 2 = 0) ∧
    (win2_5.index t 0 = t.val / 2 ∧ win2_5.index t 1 = t.val % 2 ∧ win2_5.index t 2 = 0) ∧
    (win2_6.index t 0 = t.val / 2 ∧ win2_6.index t 1 = t.val % 2 ∧ win2_6.index t 2 = 0) ∧
    (win2_12.index t 0 = t.val / 2 ∧ win2_12.index t 1 = t.val % 2 ∧ win2_12.index t 2 = 0) := by
  decide +kernel

/-- The windows over a whole sequence: the block index is the sequence. -/
theorem index2_whole : ∀ t : Fin grid2.N,
    (win2_1.index t 0 = t.val / 2 ∧ win2_1.index t 1 = 0 ∧ win2_1.index t 2 = 0) ∧
    (win2_2.index t 0 = t.val / 2 ∧ win2_2.index t 1 = 0 ∧ win2_2.index t 2 = 0) := by
  decide +kernel

/-- The windows that stay have block index zero. -/
theorem index2_fixed : ∀ t : Fin grid2.N,
    (∀ a : Fin 2, win2_4.index t a = 0) ∧ (∀ a : Fin 3, win2_7.index t a = 0) ∧ (∀ a : Fin 2, win2_8.index t a = 0) ∧
    (∀ a : Fin 2, win2_9.index t a = 0) ∧ (∀ a : Fin 2, win2_10.index t a = 0) ∧ (∀ a : Fin 2, win2_11.index t a = 0) := by
  decide +kernel

/-- Row `r` of the block over half a sequence is the row of its position in the sequence. -/
theorem half_at {t : Fin grid2.N} {n : ℕ} {s : Fin 3 → ℕ} (h : s 0 = t.val / 2 ∧ s 1 = t.val % 2 ∧ s 2 = 0) (r : Fin 1024)
    (k : Fin n) (a : Fin 3) :
    s a * (![1, 1024, n] : Fin 3 → ℕ) a + ((ix3 0 r k : (⟨3, ![1, 1024, n]⟩ : Shape).Idx) a : ℕ)
      = ((ix3 (seqOf t) (posOf t r) k : (⟨3, ![4, 2048, n]⟩ : Shape).Idx) a : ℕ) := by
  match a with
  | ⟨0, _⟩ => show s 0 * 1 + 0 = t.val / 2; rw [h.1]; omega
  | ⟨1, _⟩ => show s 1 * 1024 + r.val = t.val % 2 * 1024 + r.val; rw [h.2.1]
  | ⟨2, _⟩ => show s 2 * n + k.val = k.val; rw [h.2.2]; omega

/-- Row `r` of the block over a whole sequence is row `r` of the sequence. -/
theorem whole_at {t : Fin grid2.N} {n : ℕ} {s : Fin 3 → ℕ} (h : s 0 = t.val / 2 ∧ s 1 = 0 ∧ s 2 = 0) (r : Fin 2048)
    (k : Fin n) (a : Fin 3) :
    s a * (![1, 2048, n] : Fin 3 → ℕ) a + ((ix3 0 r k : (⟨3, ![1, 2048, n]⟩ : Shape).Idx) a : ℕ)
      = ((ix3 (seqOf t) r k : (⟨3, ![4, 2048, n]⟩ : Shape).Idx) a : ℕ) := by
  match a with
  | ⟨0, _⟩ => show s 0 * 1 + 0 = t.val / 2; rw [h.1]; omega
  | ⟨1, _⟩ => show s 1 * 2048 + r.val = r.val; rw [h.2.1]; omega
  | ⟨2, _⟩ => show s 2 * n + k.val = k.val; rw [h.2.2]; omega

/-- An index of the result's block is that index at its position in the sequence. -/
theorem emb2_out (t : Fin grid2.N) (r d : Fin 1024) :
    ((cfg2.win 12).blk t).view.emb (ix3 0 r d) = ix3 (seqOf t) (posOf t r) d :=
  block_emb win2_12 t _ _ (half_at (index2_half t).2.2.2.2 r d)

variable (V : (c : Dev nD) → (b : Ref sig .tc) → Buf (Elt Ideal) ((c : Thread nD τ).loc b)) (c : Dev nD)

/-- What the region finds, as reals. -/
structure Found2 (I O : Fin 4 → Fin 2048 → Fin 128 → ℝ) (H : Fin 4 → Fin 2048 → Fin 2048 → ℝ) (D : Fin 1024 → Fin 2048 → ℝ)
    (P : Fin 4 → Fin 2048 → Fin 128 → ℝ) (L : Fin 4 → Fin 2048 → Fin 8 → ℝ) (W : Fin 8 → Fin 128 → Fin 128 → ℝ)
    (g b : Fin 8 → Fin 128 → ℝ) (M N : Fin 1024 → Fin 128 → ℝ) : Prop where
  ain : ∀ q s a, V c main_v12 (ix3 q s a) = (I q s a : EReal)
  aout : ∀ q s a, V c main_v13 (ix3 q s a) = (O q s a : EReal)
  hidden : ∀ q s h, V c main_v14 (ix3 q s h) = (H q s h : EReal)
  down : ∀ d h, V c main_v3 (ix2 d h) = (D d h : EReal)
  pre : ∀ q s a, V c main_v15 (ix3 q s a) = (P q s a : EReal)
  logits : ∀ q s e, V c main_v16 (ix3 q s e) = (L q s e : EReal)
  mats : ∀ e a k, V c main_v17 (ix3 e a k) = (W e a k : EReal)
  scale : ∀ e a, V c main_arg10 (ix2 e a) = (g e a : EReal)
  shift : ∀ e a, V c main_arg11 (ix2 e a) = (b e a : EReal)
  experts : ∀ d a, V c main_v11_0 (ix2 d a) = (M d a : EReal)
  adapter : ∀ d a, V c main_v11_1 (ix2 d a) = (N d a : EReal)

/-- The result at an index of the array. -/
def perResult (f : Fin 4 → Fin 2048 → Fin 1024 → ℝ) (i : S4x2048x1024.Idx) : EReal := (f (i 0) (i 1) (i 2) : EReal)

variable {V c} {I O : Fin 4 → Fin 2048 → Fin 128 → ℝ} {H : Fin 4 → Fin 2048 → Fin 2048 → ℝ} {D : Fin 1024 → Fin 2048 → ℝ}
    {P : Fin 4 → Fin 2048 → Fin 128 → ℝ} {L : Fin 4 → Fin 2048 → Fin 8 → ℝ} {W : Fin 8 → Fin 128 → Fin 128 → ℝ}
    {g b : Fin 8 → Fin 128 → ℝ} {M N : Fin 1024 → Fin 128 → ℝ} (F : Found2 V c I O H D P L W g b M N)
include F

/-- A point reads its half of the sequence's adapter inputs. -/
theorem Found2.read0 (t : Fin grid2.N) (r : Fin 1024) (k : Fin 128) :
    iblk2 V c 0 t (ix3 0 r k) = (I (seqOf t) (posOf t r) k : EReal) :=
  (congrArg (V c main_v12) (block_emb win2_0 t _ (ix3 (seqOf t) (posOf t r) k) (half_at (index2_half t).1 r k))).trans (F.ain _ _ _)

/-- A point reads the whole sequence's adapter outputs. -/
theorem Found2.read1 (t : Fin grid2.N) (r : Fin 2048) (k : Fin 128) : iblk2 V c 1 t (ix3 0 r k) = (O (seqOf t) r k : EReal) :=
  (congrArg (V c main_v13) (block_emb win2_1 t _ (ix3 (seqOf t) r k) (whole_at (index2_whole t).1 r k))).trans (F.aout _ _ _)

/-- A point reads the whole sequence's adapter inputs. -/
theorem Found2.read2 (t : Fin grid2.N) (r : Fin 2048) (k : Fin 128) : iblk2 V c 2 t (ix3 0 r k) = (I (seqOf t) r k : EReal) :=
  (congrArg (V c main_v12) (block_emb win2_2 t _ (ix3 (seqOf t) r k) (whole_at (index2_whole t).2 r k))).trans (F.ain _ _ _)

/-- A point reads its half of the sequence's gated activations. -/
theorem Found2.read3 (t : Fin grid2.N) (r : Fin 1024) (h : Fin 2048) :
    iblk2 V c 3 t (ix3 0 r h) = (H (seqOf t) (posOf t r) h : EReal) :=
  (congrArg (V c main_v14) (block_emb win2_3 t _ (ix3 (seqOf t) (posOf t r) h) (half_at (index2_half t).2.1 r h))).trans (F.hidden _ _ _)

/-- A point reads the whole down matrix. -/
theorem Found2.read4 (t : Fin grid2.N) (d : Fin 1024) (h : Fin 2048) : iblk2 V c 4 t (ix2 d h) = (D d h : EReal) :=
  (congrArg (V c main_v3) (block_emb_fixed win2_4 t _ (ix2 d h) (index2_fixed t).1 fun _ => rfl)).trans (F.down d h)

/-- A point reads its half of the sequence's pre-adapter rows. -/
theorem Found2.read5 (t : Fin grid2.N) (r : Fin 1024) (k : Fin 128) :
    iblk2 V c 5 t (ix3 0 r k) = (P (seqOf t) (posOf t r) k : EReal) :=
  (congrArg (V c main_v15) (block_emb win2_5 t _ (ix3 (seqOf t) (posOf t r) k) (half_at (index2_half t).2.2.1 r k))).trans (F.pre _ _ _)

/-- A point reads its half of the sequence's router logits. -/
theorem Found2.read6 (t : Fin grid2.N) (r : Fin 1024) (e : Fin 8) :
    iblk2 V c 6 t (ix3 0 r e) = (L (seqOf t) (posOf t r) e : EReal) :=
  (congrArg (V c main_v16) (block_emb win2_6 t _ (ix3 (seqOf t) (posOf t r) e) (half_at (index2_half t).2.2.2.1 r e))).trans (F.logits _ _ _)

/-- A point reads all the experts' matrices. -/
theorem Found2.read7 (t : Fin grid2.N) (e : Fin 8) (a k : Fin 128) : iblk2 V c 7 t (ix3 e a k) = (W e a k : EReal) :=
  (congrArg (V c main_v17) (block_emb_fixed win2_7 t _ (ix3 e a k) (index2_fixed t).2.1 fun _ => rfl)).trans (F.mats e a k)

/-- A point reads all the experts' scales. -/
theorem Found2.read8 (t : Fin grid2.N) (e : Fin 8) (a : Fin 128) : iblk2 V c 8 t (ix2 e a) = (g e a : EReal) :=
  (congrArg (V c main_arg10) (block_emb_fixed win2_8 t _ (ix2 e a) (index2_fixed t).2.2.1 fun _ => rfl)).trans (F.scale e a)

/-- A point reads all the experts' shifts. -/
theorem Found2.read9 (t : Fin grid2.N) (e : Fin 8) (a : Fin 128) : iblk2 V c 9 t (ix2 e a) = (b e a : EReal) :=
  (congrArg (V c main_arg11) (block_emb_fixed win2_9 t _ (ix2 e a) (index2_fixed t).2.2.2.1 fun _ => rfl)).trans (F.shift e a)

/-- A point reads the product of the experts' projections. -/
theorem Found2.read10 (t : Fin grid2.N) (d : Fin 1024) (a : Fin 128) : iblk2 V c 10 t (ix2 d a) = (M d a : EReal) :=
  (congrArg (V c main_v11_0) (block_emb_fixed win2_10 t _ (ix2 d a) (index2_fixed t).2.2.2.2.1 fun _ => rfl)).trans (F.experts d a)

/-- A point reads the product of the adapter's projection with the down matrix. -/
theorem Found2.read11 (t : Fin grid2.N) (d : Fin 1024) (a : Fin 128) : iblk2 V c 11 t (ix2 d a) = (N d a : EReal) :=
  (congrArg (V c main_v11_1) (block_emb_fixed win2_11 t _ (ix2 d a) (index2_fixed t).2.2.2.2.2 fun _ => rfl)).trans (F.adapter d a)

omit F in
/-- The result at a position of a sequence. -/
def resultOf (I O : Fin 4 → Fin 2048 → Fin 128 → ℝ) (H : Fin 4 → Fin 2048 → Fin 2048 → ℝ) (D : Fin 1024 → Fin 2048 → ℝ)
    (P : Fin 4 → Fin 2048 → Fin 128 → ℝ) (L : Fin 4 → Fin 2048 → Fin 8 → ℝ) (W : Fin 8 → Fin 128 → Fin 128 → ℝ)
    (g b : Fin 8 → Fin 128 → ℝ) (M N : Fin 1024 → Fin 128 → ℝ) (q : Fin 4) (s : Fin 2048) (d : Fin 1024) : ℝ :=
  (dot (H q s) (D d) + tenth * dot (adaptOf (I q s) (O q) (I q)) (N d)) * ∑ e, weightOf (L q s) e
    + tenth * dot (mixture (L q s) (P q s) W g b) (M d)

/-- The kernel's result array. -/
theorem Found2.result_array : (dat2 V c).arrAt 12 cfg2.N = perResult (resultOf I O H D P L W g b M N) :=
  array_of_blocks (dat2 V c) 12 _
    (fun t => funext fun y => by
      obtain ⟨z, r, d, rfl⟩ : ∃ z r d, y = ix3 z r d := ⟨y 0, y 1, y 2, eq_ix3 y⟩
      obtain rfl : z = 0 := Subsingleton.elim _ _
      exact (congrFun (after2_12 V c t) _).trans
        ((out2_12_apply (F.read0 t) (F.read1 t) (F.read2 t) (F.read3 t) (F.read4 t) (F.read5 t) (F.read6 t) (F.read7 t)
            (F.read8 t) (F.read9 t) (F.read10 t) (F.read11 t) r d).trans
          (congrArg (perResult (resultOf I O H D P L W g b M N)) (emb2_out t r d)).symm))
    fun i => by
      obtain ⟨t, r, hb, hs⟩ := exists_pos (i 0) (i 1)
      exact ⟨t, ix3 0 r (i 2), flush2_12 t, (emb2_out t r (i 2)).trans (by rw [← hb, ← hs]; exact (eq_ix3 i).symm)⟩

end Cert.Moe

end
-- ==== Proof.KernelValue.lean ====
/- The kernel's result array: the three regions and the host operations between them, composed. -/
module

public import proofs.«01_k».proof.Proof.Region0
public import proofs.«01_k».proof.Proof.Region1
public import proofs.«01_k».proof.Proof.Region2
public import proofs.«01_k».proof.Proof.Held
public import Idealize.ShloMosaic.Lib.StableHlo.ReadAt

@[expose] public section

noncomputable section

namespace Cert.Moe

open Idealize.ShloMosaic Idealize.ShloMosaic.TcCoe Idealize.SL.Sem Cert.KernelIdeal Cert.KernelIdeal.Gen

variable {m : (ℓ : Loc nD τ sig) → Buf (Elt Ideal) ℓ} (ρ : Dev nD → PrngReg) {c : Dev nD} {A : Args}

/-- Device `c`'s argument arrays hold `A`. -/
abbrev HeldAt (m : (ℓ : Loc nD τ sig) → Buf (Elt Ideal) ℓ) (c : Dev nD) (A : Args) : Prop :=
  Held (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) A

/-- The router's matrix: the groups' rows, the experts' rows, two rows of zeros. -/
def routerRows (A : Args) (e : Fin 8) (d : Fin 1024) : ℝ :=
  if h : e.val < 2 then A.wg ⟨e.val, h⟩ d else if h : e.val - 2 < 4 then A.we ⟨e.val - 2, h⟩ d else 0

variable (hm : HeldAt m c A)
include hm

/-- What the first region finds. -/
theorem found0 : Found0 (V1 m ρ) c (fun n => A.x (seq n) (pos n)) A.gate A.up A.wpost A.wpre (routerRows A) A.ag A.ab where
  x n k := by
    show StableHlo.after hostOps0 (W0 m ρ c) main_v0 (ix2 n k) = _
    after_reads_at
    exact hm.x (seq n) (pos n) k
  gate h k := by
    show StableHlo.after hostOps0 (W0 m ρ c) main_v1 (ix2 h k) = _
    after_reads_at
    exact hm.gate h k
  up h k := by
    show StableHlo.after hostOps0 (W0 m ρ c) main_v2 (ix2 h k) = _
    after_reads_at
    exact hm.up h k
  post a h := by
    show StableHlo.after hostOps0 (W0 m ρ c) main_v4 (ix2 a h) = _
    after_reads_at
    exact hm.wpost a h
  pre a k := by
    show StableHlo.after hostOps0 (W0 m ρ c) main_v5 (ix2 a k) = _
    after_reads_at
    exact hm.wpre a k
  router e k := by
    show StableHlo.after hostOps0 (W0 m ρ c) main_v7 (ix2 e k) = _
    after_reads_at
    unfold routerRows
    split
    · exact hm.wg _ k
    · split
      · exact hm.we _ k
      · refine (congrFun (StableHlo.unary_result' ..) _).trans ?_
        pointwise
        have h := StableHlo.nullary_result' (τ := τ) (Val := Elt Ideal) (y := main_cst)
          (constant (F := Ideal) S_ .f32 0x00000000#32 : (⟨S_, .f32⟩ : BufTy).Contents (Elt Ideal)) (by decide) (StableHlo.upto hostOps0 (W0 m ρ c) 6)
        exact (congrFun h ix0).trans Ideal.ofBits_zero_f32
  scale a := by
    show StableHlo.after hostOps0 (W0 m ρ c) main_v8 (ix2 0 a) = _
    after_reads_at
    exact hm.ag a
  shift a := by
    show StableHlo.after hostOps0 (W0 m ρ c) main_v9 (ix2 0 a) = _
    after_reads_at
    exact hm.ab a

/-- What the second region finds. -/
theorem found1 : Found1 (V2 m ρ) c A.wep A.wap A.wop A.down where
  inner h a := (congrFun (W2_args m ρ c main_arg12 (by decide)) (ix2 h a)).trans (hm.wep h a)
  outer d h := (congrFun (W2_args m ρ c main_arg13 (by decide)) (ix2 d h)).trans (hm.wop d h)
  inner' h a := (congrFun (W2_args m ρ c main_arg8 (by decide)) (ix2 h a)).trans (hm.wap h a)
  outer' d h := (congrFun (W2_args m ρ c main_arg3 (by decide)) (ix2 d h)).trans (hm.down d h)

omit hm in
/-- The groups' and the experts' probabilities from the logits are those of the tokens. -/
theorem weightOf_logits (b : Fin 4) (s : Fin 2048) (e : Fin 8) :
    weightOf (fun e => dot (A.x b s) (routerRows A e)) e = A.w b s e := by
  have hg : groupProb (fun e => dot (A.x b s) (routerRows A e)) = A.gprob b s := by
    unfold groupProb Args.gprob
    refine congrArg softmax (funext fun i => congrArg (dot (A.x b s)) (funext fun d => ?_))
    unfold routerRows
    exact dif_pos i.isLt
  have hl : expertProb (fun e => dot (A.x b s) (routerRows A e)) = A.lprob b s := by
    unfold expertProb Args.lprob
    refine congrArg softmax (funext fun j => congrArg (dot (A.x b s)) (funext fun d => ?_))
    unfold routerRows
    rw [dif_neg (by show ¬ 2 + j.val < 2; omega), dif_pos (by show 2 + j.val - 2 < 4; omega)]
    exact congrArg (fun j => A.we j d) (Fin.ext (by show 2 + j.val - 2 = j.val; omega))
  unfold weightOf
  rw [hg, hl]
  rfl

omit hm in
/-- An array over the tokens, read at the token of position `s` of sequence `b`. -/
theorem perToken_token {n : ℕ} (f : Fin 4 → Fin 2048 → Fin n → ℝ) (b : Fin 4) (s : Fin 2048) (k : Fin n) :
    perToken (fun n => f (seq n) (pos n)) (ix2 (token b s) k) = (f b s k : EReal) := by
  show (f (seq (token b s)) (pos (token b s)) k : EReal) = _
  rw [seq_token, pos_token]

/-- What the third region finds. -/
theorem found2 : Found2 (V4 m ρ) c A.ain A.aout A.hid A.down A.pre (fun b s e => dot (A.x b s) (routerRows A e)) A.wa A.lg A.lb
    A.projE A.projA where
  ain q s a := by
    show StableHlo.after hostOps2 (W3 m ρ c) main_v12 (ix3 q s a) = _
    after_reads_at
    refine (congrFun ((W3_of m ρ c main_v10_2 (by decide)).trans ((W2_arr m ρ c 10).trans (found0 ρ hm).ain_array)) (ix2 (token q s) a)).trans ?_
    exact perToken_token A.ain q s a
  aout q s a := by
    show StableHlo.after hostOps2 (W3 m ρ c) main_v13 (ix3 q s a) = _
    after_reads_at
    refine (congrFun ((W3_of m ρ c main_v10_3 (by decide)).trans ((W2_arr m ρ c 11).trans (found0 ρ hm).aout_array)) (ix2 (token q s) a)).trans ?_
    exact perToken_token A.aout q s a
  hidden q s a := by
    show StableHlo.after hostOps2 (W3 m ρ c) main_v14 (ix3 q s a) = _
    after_reads_at
    refine (congrFun ((W3_of m ρ c main_v10_0 (by decide)).trans ((W2_arr m ρ c 8).trans (found0 ρ hm).hidden_array)) (ix2 (token q s) a)).trans ?_
    exact perToken_token A.hid q s a
  down d h := by
    show StableHlo.after hostOps2 (W3 m ρ c) main_v3 (ix2 d h) = _
    after_reads_at
    refine (congrFun ((W3_of m ρ c main_v3 (by decide)).trans (W2_of m ρ c main_v3 (by decide))) (ix2 d h)).trans ?_
    show StableHlo.after hostOps0 (W0 m ρ c) main_v3 (ix2 d h) = _
    after_reads_at
    exact hm.down d h
  pre q s a := by
    show StableHlo.after hostOps2 (W3 m ρ c) main_v15 (ix3 q s a) = _
    after_reads_at
    refine (congrFun ((W3_of m ρ c main_v10_1 (by decide)).trans ((W2_arr m ρ c 9).trans (found0 ρ hm).pre_array)) (ix2 (token q s) a)).trans ?_
    exact perToken_token A.pre q s a
  logits q s e := by
    show StableHlo.after hostOps2 (W3 m ρ c) main_v16 (ix3 q s e) = _
    after_reads_at
    refine (congrFun ((W3_of m ρ c main_v10_4 (by decide)).trans ((W2_arr m ρ c 12).trans (found0 ρ hm).logits_array)) (ix2 (token q s) e)).trans ?_
    exact perToken_token (fun b s e => dot (A.x b s) (routerRows A e)) q s e
  mats e a k := by
    show StableHlo.after hostOps2 (W3 m ρ c) main_v17 (ix3 e a k) = _
    after_reads_at
    exact (congrFun (W3_args m ρ c main_arg9 (by decide)) (ix3 e a k)).trans (hm.wa e a k)
  scale e a := (congrFun (W4_args m ρ c main_arg10 (by decide)) (ix2 e a)).trans (hm.lg e a)
  shift e a := (congrFun (W4_args m ρ c main_arg11 (by decide)) (ix2 e a)).trans (hm.lb e a)
  experts d a :=
    (congrFun ((W4_of m ρ c main_v11_0 (by decide)).trans ((W3_arr m ρ c 4).trans (found1 ρ hm).experts_array)) (ix2 d a))
  adapter d a :=
    (congrFun ((W4_of m ρ c main_v11_1 (by decide)).trans ((W3_arr m ρ c 5).trans (found1 ρ hm).adapter_array)) (ix2 d a))

omit hm in
/-- What the third region makes of it is `kernelOut`. -/
theorem resultOf_eq (b : Fin 4) (s : Fin 2048) (d : Fin 1024) :
    resultOf A.ain A.aout A.hid A.down A.pre (fun b s e => dot (A.x b s) (routerRows A e)) A.wa A.lg A.lb A.projE A.projA b s d
      = A.kernelOut b s d := by
  have ha : adaptOf (A.ain b s) (A.aout b) (A.ain b) = A.adapt b s := rfl
  have hw : weightOf (fun e => dot (A.x b s) (routerRows A e)) = A.w b s := funext (weightOf_logits b s)
  have hx : mixture (fun e => dot (A.x b s) (routerRows A e)) (A.pre b s) A.wa A.lg A.lb
      = fun a => ∑ e, A.w b s e * A.expert b s e a := by
    funext a
    unfold mixture
    rw [hw]
    rfl
  unfold resultOf Args.kernelOut
  rw [ha, hw, hx]

/-- The kernel's result array holds `kernelOut`. -/
theorem kernel_result : W5 m ρ c (Proc.devRef .tc main_v18) = perResult A.kernelOut :=
  (W5_arr m ρ c 12).trans ((found2 ρ hm).result_array.trans
    (congrArg perResult (funext fun b => funext fun s => funext fun d => resultOf_eq b s d)))

end Cert.Moe

end
-- ==== Proof.RefNetwork.lean ====
/- The reference's shared network: hidden layer, projections, layer normalisations, adapter and down projection. -/
module

public import proofs.«01_k».proof.Proof.Held
public import proofs.«01_k».proof.Proof.Coe
public import proofs.«01_k».proof.Proof.Gen.ReferenceIdeal.Read

@[expose] public section

noncomputable section

namespace Cert.Moe

open Idealize.ShloMosaic Cert.ReferenceIdeal Cert.ReferenceIdeal.Read

/-- `r` times the reciprocal of one plus the exponential of `-r`. -/
theorem silu_div (r : ℝ) : (r : EReal) * Ideal.div 1 (1 + Ideal.exp (-(r : EReal))) = ((silu r : ℝ) : EReal) := by
  rw [← EReal.coe_one, ← EReal.coe_neg, Ideal.exp_coe, ← EReal.coe_add, div_coe (by positivity), ← EReal.coe_mul]
  unfold silu
  rw [one_div]

section
variable {x0 : Vec Ideal S4x2048x1024 .f32} {x1 x2 : Vec Ideal S2048x1024 .f32}
    {x3 : Vec Ideal S1024x2048 .f32} {x4 : Vec Ideal S128x1024 .f32} {x5 : Vec Ideal S128x2048 .f32}
    {x6 x7 : Vec Ideal S128 .f32} {x8 : Vec Ideal S2048x128 .f32} {x9 : Vec Ideal S8x128x128 .f32}
    {x10 x11 : Vec Ideal S8x128 .f32} {x12 : Vec Ideal S2048x128 .f32} {x13 : Vec Ideal S1024x2048 .f32}
    {x14 : Vec Ideal S2x1024 .f32} {x15 : Vec Ideal S4x1024 .f32} {A : Args}
    (H : Held x0 x1 x2 x3 x4 x5 x6 x7 x8 x9 x10 x11 x12 x13 x14 x15 A)

include H

/-- The hidden layer. -/
theorem ref_hid (b : Fin 4) (s : Fin 2048) (h : Fin 2048) :
    val_main_v67 (F := Ideal) x0 x1 x2 (ix3 b s h) = (A.hid b s h : EReal) := by
  pointwise [val_main_v67, val_main_v66, val_main_v65, val_main_v64, val_main_v63, val_main_v62, val_main_call0_v0, val_main_call0_v1, val_main_call0_v2, val_main_call0_v3, val_main_call0_v4, val_main_call0_v5, val_main_call0_cst, val_main_call0_cst_0]
  simp only [H.x, H.gate, H.up, dot_coe (A.x b s), silu_div]
  rw [← EReal.coe_mul]
  unfold Args.hid
  rfl

/-- The token at the adapters' width. -/
theorem ref_pre (b : Fin 4) (s : Fin 2048) (a : Fin 128) :
    val_main_v69 (F := Ideal) x0 x4 (ix3 b s a) = (A.pre b s a : EReal) := by
  pointwise [val_main_v69, val_main_v68]
  simp only [H.x, H.wpre, dot_coe]
  rfl

/-- The same product, as the experts take it. -/
theorem ref_pre_again (b : Fin 4) (s : Fin 2048) (a : Fin 128) :
    val_main_v132 (F := Ideal) x0 x4 (ix3 b s a) = (A.pre b s a : EReal) := by
  pointwise [val_main_v132, val_main_v131]
  simp only [H.x, H.wpre, dot_coe]
  rfl

/-- The adapter's queries. -/
theorem ref_ain (b : Fin 4) (s : Fin 2048) (a : Fin 128) :
    val_main_v93 (F := Ideal) x0 x4 x6 x7 (ix3 b s a) = (A.ain b s a : EReal) := by
  pointwise [val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_cst_14, val_main_cst_15, val_main_cst_16, val_main_cst_17, val_main_cst_18]
  exact layerNorm_of (p := fun k => val_main_v69 (F := Ideal) x0 x4 (ix3 b s k)) _ A.ag A.ab a (fun k => ref_pre H b s k) (H.ag a) (H.ab a)

/-- The hidden layer projected to the adapter's width. -/
theorem ref_post (b : Fin 4) (s : Fin 2048) (a : Fin 128) :
    val_main_v95 (F := Ideal) x0 x1 x2 x5 (ix3 b s a) = ((dot (fun h => A.hid b s h) (A.wpost a) : ℝ) : EReal) := by
  pointwise [val_main_v95, val_main_v94]
  simp only [ref_hid H, H.wpost, dot_coe]

/-- The adapter's keys. -/
theorem ref_aout (b : Fin 4) (s : Fin 2048) (a : Fin 128) :
    val_main_v119 (F := Ideal) x0 x1 x2 x5 x6 x7 (ix3 b s a) = (A.aout b s a : EReal) := by
  pointwise [val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_cst_19, val_main_cst_20, val_main_cst_21, val_main_cst_22, val_main_cst_23]
  exact layerNorm_of (p := fun k => val_main_v95 (F := Ideal) x0 x1 x2 x5 (ix3 b s k)) _ A.ag A.ab a (fun k => ref_post H b s k) (H.ag a) (H.ab a)

/-- The adapter's score of token `t` for token `s`, cut to the interval from -5 to 5. -/
theorem ref_clip (b : Fin 4) (s t : Fin 2048) :
    val_main_v121 (F := Ideal) x0 x1 x2 x4 x5 x6 x7 (ix3 b s t) = ((min 5 (max (-5) (dot (A.ain b s) (A.aout b t))) : ℝ) : EReal) := by
  pointwise [val_main_v121, val_main_v120, val_main_call1_v0, val_main_call1_v1, val_main_call1_v2, val_main_call1_v3, val_main_call1_v4, val_main_cst_24, val_main_cst_25]
  simp only [ref_ain H, ref_aout H, dot_coe (A.ain b s)]
  show min (Ideal.ofBits .f32 0x40A00000#32) (max (Ideal.ofBits .f32 0xC0A00000#32) _) = _
  rw [ofBits_five, ofBits_neg_five, max_coe, min_coe]

/-- The adapter's weights. -/
theorem ref_aw (b : Fin 4) (s t : Fin 2048) :
    val_main_v122 (F := Ideal) x0 x1 x2 x4 x5 x6 x7 (ix3 b s t) = (A.aw b s t : EReal) := by
  pointwise [val_main_v122, val_main_call2_v0, val_main_call2_v1, val_main_call2_v2, val_main_call2_v3, val_main_call2_v4, val_main_call2_v5, val_main_call2_cst, val_main_call2_cst_0]
  simp only [ref_clip H, silu_div]
  rfl

/-- The adapter's output. -/
theorem ref_adapt (b : Fin 4) (s : Fin 2048) (a : Fin 128) :
    val_main_v123 (F := Ideal) x0 x1 x2 x4 x5 x6 x7 (ix3 b s a) = (A.adapt b s a : EReal) := by
  pointwise [val_main_v123]
  simp only [ref_aw H, ref_ain H]
  exact dot_coe (A.aw b s) (fun t => A.ain b t a)

/-- The hidden layer with the adapter's contribution. -/
theorem ref_hid_adapted (b : Fin 4) (s : Fin 2048) (h : Fin 2048) :
    val_main_v128 (F := Ideal) x0 x1 x2 x4 x5 x6 x7 x8 (ix3 b s h)
      = ((A.hid b s h + tenth * dot (A.adapt b s) (A.wap h) : ℝ) : EReal) := by
  pointwise [val_main_v128, val_main_v127, val_main_v126, val_main_v125, val_main_v124, val_main_cst_26]
  simp only [ref_hid H, ref_adapt H, H.wap, dot_coe (A.adapt b s), ofBits_tenth, EReal.coe_add, EReal.coe_mul]

/-- The shared network's output. -/
theorem ref_shared (b : Fin 4) (s : Fin 2048) (d : Fin 1024) :
    val_main_v130 (F := Ideal) x0 x1 x2 x3 x4 x5 x6 x7 x8 (ix3 b s d) = (A.shared b s d : EReal) := by
  pointwise [val_main_v130, val_main_v129]
  simp only [ref_hid_adapted H, H.down]
  exact dot_coe (fun h => A.hid b s h + tenth * dot (A.adapt b s) (A.wap h)) (A.down d)

end

end Cert.Moe

end
-- ==== Proof.Order.lean ====
/- Sorting a row in descending order, equal numbers in the order of their positions: where the places come from. -/
module

public import proofs.«01_k».proof.Proof.Rank
public import Idealize.ShloMosaic.Lib.SortFacts

@[expose] public section

noncomputable section

namespace Cert.Moe

open Idealize.ShloMosaic

variable {n : ℕ}

/-- Whether the number at `k` is greater than the one at `k'`. -/
def above (l : Fin n → ℝ) (k k' : Fin n) : Bool := decide (l k' < l k)

/-- The position whose number takes place `k` of the descending row. -/
def order (l : Fin n → ℝ) : Fin n → Fin n := sortedFrom (above l)

/-- Putting a position into a list of later positions keeps the list in order. -/
theorem insert_beats (l : Fin n → ℝ) (a : Fin n) (s : List (Fin n)) (ha : ∀ b ∈ s, a < b) (hs : s.Pairwise (Beats l)) :
    (insertBefore (above l) a s).Pairwise (Beats l) := by
  induction s with
  | nil => exact List.pairwise_singleton _ _
  | cons b s ih =>
    have ⟨hb, hs'⟩ := List.pairwise_cons.1 hs
    unfold insertBefore
    split
    · rename_i h
      have hba : l a < l b := of_decide_eq_true h
      refine List.pairwise_cons.2 ⟨fun c hc => ?_, ih (fun c hc => ha c (List.mem_cons_of_mem _ hc)) hs'⟩
      rcases List.mem_cons.1 ((perm_insertBefore _ a s).mem_iff.1 hc) with rfl | hc
      · exact Or.inl hba
      · exact hb c hc
    · rename_i h
      have hab : l b ≤ l a := not_lt.1 fun h' => h (decide_eq_true h')
      have hlt := ha b List.mem_cons_self
      refine List.pairwise_cons.2 ⟨fun c hc => ?_, hs⟩
      have hac := ha c hc
      have hca : l c ≤ l a := by
        rcases List.mem_cons.1 hc with rfl | hc
        · exact hab
        · rcases hb c hc with h' | h'
          · exact (h'.le).trans hab
          · exact h'.1.le.trans hab
      rcases lt_or_eq_of_le hca with h' | h'
      · exact Or.inl h'
      · exact Or.inr ⟨h', hac⟩

/-- The sorted list of an increasing list of positions is in order. -/
theorem sort_beats (l : Fin n → ℝ) (s : List (Fin n)) (hs : s.Pairwise (· < ·)) : (stableSort (above l) s).Pairwise (Beats l) := by
  induction s with
  | nil => exact List.Pairwise.nil
  | cons a s ih =>
    have ⟨ha, hs'⟩ := List.pairwise_cons.1 hs
    exact insert_beats l a _ (fun b hb => ha b ((perm_stableSort _ s).mem_iff.1 hb)) (ih hs')

/-- An earlier place's number beats a later place's. -/
theorem order_beats (l : Fin n → ℝ) {i j : Fin n} (h : i < j) : Beats l (order l i) (order l j) := by
  have hp := List.pairwise_iff_get.1 (sort_beats l (List.finRange n) (List.pairwise_lt_finRange n))
  exact hp _ _ h

/-- Each position takes exactly one place. -/
theorem order_bijective (l : Fin n → ℝ) : Function.Bijective (order l) :=
  ⟨sortedFrom_injective _, sortedFrom_surjective _⟩

/-- Two numbers do not both beat each other. -/
theorem beats_asymm (l : Fin n → ℝ) {i j : Fin n} (h : Beats l i j) : ¬ Beats l j i := by
  rintro (h' | ⟨h', h''⟩)
  · rcases h with h | ⟨h, -⟩ <;> linarith
  · rcases h with h | ⟨-, h⟩
    · linarith
    · omega

/-- One place's number beats another's exactly when it is the earlier place. -/
theorem order_beats_iff (l : Fin n → ℝ) (i j : Fin n) : Beats l (order l i) (order l j) ↔ i < j := by
  refine ⟨fun h => ?_, order_beats l⟩
  rcases lt_trichotomy i j with h' | rfl | h'
  · exact h'
  · exact absurd h (beats_asymm l h)
  · exact absurd h (beats_asymm l (order_beats l h'))

/-- The number at place `k` is beaten by exactly `k` numbers. -/
theorem rank_order (l : Fin n → ℝ) (k : Fin n) : rank l (order l k) = k.val := by
  classical
  have : (Finset.univ.filter fun m => Beats l m (order l k)) = (Finset.univ.filter fun i => i < k).image (order l) := by
    ext m
    obtain ⟨i, rfl⟩ := (order_bijective l).2 m
    simp only [Finset.mem_filter, Finset.mem_univ, true_and, order_beats_iff, Finset.mem_image]
    constructor
    · intro h; exact ⟨i, h, rfl⟩
    · rintro ⟨i', h, e⟩; rwa [(order_bijective l).1 e] at h
  have h2 : rank l (order l k) = (Finset.univ.filter fun m => Beats l m (order l k)).card := by
    unfold rank; congr
  rw [h2, this, Finset.card_image_of_injective _ (order_bijective l).1]
  rw [← Fin.card_Iio k]
  congr 1
  ext i
  rw [Finset.mem_filter, Finset.mem_Iio]
  exact ⟨fun h => h.2, fun h => ⟨Finset.mem_univ _, h⟩⟩

/-- The numbers at the first two places are kept, the others become zero. -/
theorem top2_order (l : Fin 4 → ℝ) (k : Fin 4) : top2 l (order l k) = if k.val < 2 then l (order l k) else 0 := by
  unfold top2; rw [rank_order]

/-- The two largest of four numbers together. -/
theorem sum_top2 (l : Fin 4 → ℝ) : ∑ j, top2 l j = l (order l 0) + l (order l 1) := by
  rw [← (order_bijective l).sum_comp, Fin.sum_univ_four]
  simp [top2_order]

/-- What the first two places put at position `j` is `u` of what `top2` keeps there, for `u` with `u 0 = 0`. -/
theorem top2_pick (l : Fin 4 → ℝ) (j : Fin 4) (u : ℝ → ℝ) (hu : u 0 = 0) :
    (if order l 0 = j then u (l (order l 0)) else 0) + (if order l 1 = j then u (l (order l 1)) else 0) = u (top2 l j) := by
  obtain ⟨k, rfl⟩ := (order_bijective l).2 j
  rw [top2_order]
  simp only [(order_bijective l).1.eq_iff]
  fin_cases k <;> simp [hu]

/-- Of two numbers the first place goes to the first one unless the second is greater. -/
theorem order_pair (p : Fin 2 → ℝ) : (order p 0).val = group p := by
  have h : ¬ Beats p (order p 1) (order p 0) := beats_asymm p (order_beats p (by decide))
  have h' := order_beats p (show (0 : Fin 2) < 1 by decide)
  have hne : order p 0 ≠ order p 1 := fun e => absurd ((order_bijective p).1 e) (by decide)
  unfold group
  generalize order p 0 = a, order p 1 = b at *
  fin_cases a <;> fin_cases b <;> simp_all [Beats]

/-- The number at the first place of two is the greater one. -/
theorem order_pair_max (p : Fin 2 → ℝ) : p (order p 0) = max (p 0) (p 1) := by
  have h := order_pair p
  unfold group at h
  split_ifs at h with hp
  · rw [show order p 0 = 1 from Fin.ext h, max_eq_right hp.le]
  · rw [show order p 0 = 0 from Fin.ext h, max_eq_left (not_lt.1 hp)]

/-- The routing weight of expert `e` is what the two chosen pairs put at `e`. -/
theorem weight_pick (p : Fin 2 → ℝ) (l : Fin 4 → ℝ) (e : Fin 8) :
    (∑ k : Fin 2, if group p * 4 + (order l (k.castLE (by decide))).val = e.val
      then max (p 0) (p 1) * (l (order l (k.castLE (by decide))) / ((l (order l 0) + l (order l 1)) + epsSel)) else 0)
      = weight p l e := by
  rw [Fin.sum_univ_two]
  unfold weight
  rw [sum_top2]
  have hmod : ∀ k : Fin 4, (group p * 4 + k.val = e.val) ↔ (e.val / 4 = group p ∧ k = ⟨e.val % 4, Nat.mod_lt _ (by decide)⟩) := fun k => by
    rw [Fin.ext_iff]
    show _ ↔ _ ∧ k.val = e.val % 4
    omega
  show (if group p * 4 + (order l 0).val = e.val then _ else 0) + (if group p * 4 + (order l 1).val = e.val then _ else 0) = _
  rw [if_congr (hmod _) rfl rfl, if_congr (hmod _) rfl rfl]
  by_cases he : e.val / 4 = group p
  · rw [if_pos he]
    simp only [he, true_and]
    exact top2_pick l _ (fun y => max (p 0) (p 1) * (y / ((l (order l 0) + l (order l 1)) + epsSel))) (by simp)
  · simp [he]

end Cert.Moe

end
-- ==== Proof.TopK.lean ====
/- The largest numbers of each row with their positions, read place by place. -/
module

public import proofs.«01_k».proof.Proof.Order
public import proofs.«01_k».proof.Proof.Coe
public import Idealize.ShloMosaic.Lib.Pointwise

@[expose] public section

noncomputable section

namespace Cert.Moe

open Idealize.ShloMosaic

/-- Moving along the columns from an index of row `r` stays in row `r`. -/
theorem along_row {R N : ℕ} (r : Fin R) (k k' : Fin N) : Shape.Idx.along (s := ⟨2, ![R, N]⟩) (ix2 r k) 1 k' = ix2 r k' := by
  funext a
  match a with
  | ⟨0, _⟩ => rfl
  | ⟨1, _⟩ => rfl

/-- Reading the leading columns. -/
theorem leading {α : Type} {R N T : ℕ} (y : Shape.Idx ⟨2, ![R, N]⟩ → α) (hT : T ≤ N) (h : Shape.Slices ⟨2, ![R, N]⟩ (fun _ => 0) ⟨2, ![R, T]⟩)
    (r : Fin R) (k : Fin T) : extractStridedSlice ⟨2, ![R, T]⟩ (fun _ => 0) y h (ix2 r k) = y (ix2 r (k.castLE hT)) := by
  unfold extractStridedSlice
  refine congrArg y (funext fun a => ?_)
  match a with
  | ⟨0, _⟩ => exact Fin.ext (Nat.zero_add _)
  | ⟨1, _⟩ => exact Fin.ext (Nat.zero_add _)

/-- The number and the position at place `k` of row `r`. -/
theorem topK_row {R N T : ℕ} (x : Vec Ideal ⟨2, ![R, N]⟩ .f32) (l : Fin R → Fin N → ℝ) (hx : ∀ r k, x (ix2 r k) = (l r k : EReal))
    (hT : T ≤ N) (h : Shape.Slices ⟨2, ![R, N]⟩ (fun _ => 0) ⟨2, ![R, T]⟩) (r : Fin R) (k : Fin T) :
    (Host.topK ⟨2, ![R, T]⟩ 1 (FloatOps.cmpfTotal (F := Ideal) (φ := .f32) .gt) x h).1 (ix2 r k) = (l r (order (l r) (k.castLE hT)) : EReal)
    ∧ (Host.topK ⟨2, ![R, T]⟩ 1 (FloatOps.cmpfTotal (F := Ideal) (φ := .f32) .gt) x h).2 (ix2 r k)
      = BitVec.ofNat 32 (order (l r) (k.castLE hT)).val := by
  have hs : (fun k k' : Fin N => FloatOps.cmpfTotal (F := Ideal) (φ := .f32) .gt (x (ix2 r k)) (x (ix2 r k')) == 1#1) = above (l r) := by
    funext k k'
    rw [hx, hx]
    show (BitVec.ofBool (decide ((l r k' : EReal) < (l r k : EReal))) == 1#1) = decide (l r k' < l r k)
    rw [decide_eq_decide.2 EReal.coe_lt_coe_iff]
    cases decide (l r k' < l r k) <;> rfl
  have hπ : sortedFrom (fun k' k'' : Fin N => FloatOps.cmpfTotal (F := Ideal) (φ := .f32) .gt
      (x (Shape.Idx.along (s := ⟨2, ![R, N]⟩) (ix2 r (k.castLE hT)) 1 k')) (x (Shape.Idx.along (s := ⟨2, ![R, N]⟩) (ix2 r (k.castLE hT)) 1 k'')) == 1#1)
      = order (l r) := by
    unfold order
    rw [← hs]
    refine congrArg sortedFrom (funext fun k' => funext fun k'' => ?_)
    rw [along_row, along_row]
  unfold Host.topK
  dsimp only
  refine ⟨(leading _ hT h r k).trans ?_, (leading _ hT h r k).trans ?_⟩
  · refine (congrArg (fun π : Fin N → Fin N => x (Shape.Idx.along (s := ⟨2, ![R, N]⟩) (ix2 r (k.castLE hT)) 1 (π (k.castLE hT)))) hπ).trans ?_
    show x _ = _
    rw [along_row, hx]
  · refine (congrArg (fun π : Fin N → Fin N => BitVec.ofNat 32 (Shape.Idx.along (s := ⟨2, ![R, N]⟩) (ix2 r (k.castLE hT)) 1 (π (k.castLE hT)) 1).val) hπ).trans ?_
    show BitVec.ofNat 32 _ = _
    rw [along_row]
    rfl

end Cert.Moe

end
-- ==== Proof.RefRouter.lean ====
/- The reference's router: the probabilities, the chosen pairs, and the eight weights of a token. -/
module

public import proofs.«01_k».proof.Proof.Held
public import proofs.«01_k».proof.Proof.TopK
public import proofs.«01_k».proof.Proof.Gen.ReferenceIdeal.Read
public import Idealize.ShloMosaic.Lib.Routing.OpsPair

@[expose] public section

noncomputable section

namespace Cert.Moe

open Idealize.ShloMosaic Cert.ReferenceIdeal Cert.ReferenceIdeal.Gen Cert.ReferenceIdeal.Read

/-- The softmax with the row's maximum taken together with negative infinity. -/
theorem softmax_of_max {n : ℕ} {p : Fin (n + 1) → EReal} (v : Fin (n + 1) → ℝ) (i : Fin (n + 1)) (hp : ∀ k, p k = (v k : EReal)) :
    Ideal.div (Ideal.exp (p i - max (Ideal.ofBits .f32 0xFF800000#32) (Finset.univ.fold max (Ideal.ofBits .f32 0xFF800000#32) fun k => p k)))
        (∑ j, Ideal.exp (p j - max (Ideal.ofBits .f32 0xFF800000#32) (Finset.univ.fold max (Ideal.ofBits .f32 0xFF800000#32) fun k => p k)))
      = ((softmax v i : ℝ) : EReal) := by
  rw [← softmax_of v i hp]
  simp only [ofBits_neg_infinity, bot_le, sup_of_le_right, max_eq_right]

/-- Four times the group's number plus the place in the group, as words, is the word of the expert's number. -/
theorem expert_word (g k : ℕ) (hg : g < 2) (hk : k < 4) :
    (BitVec.ofNat 32 g * 4#32 + BitVec.ofNat 32 k) = BitVec.ofNat 32 (g * 4 + k) := by
  rw [show (4#32 : BitVec 32) = BitVec.ofNat 32 4 from rfl, ← BitVec.ofNat_mul, ← BitVec.ofNat_add]

/-- A number below 2^31 is, as a word, below 2^31. -/
theorem small_nonneg {v : ℕ} (h : v < 2 ^ 31) : (BitVec.ofNat 32 v).toNat < 2 ^ (32 - 1) := by
  rw [BitVec.toNat_ofNat]; exact lt_of_le_of_lt (Nat.mod_le _ _) h

/-- A number below 2^31, read back from its word as a signed number, is itself. -/
theorem toInt_small {v : ℕ} (h : v < 2 ^ 31) : (BitVec.ofNat 32 v).toInt = (v : ℤ) := by
  have h' := small_nonneg h
  rw [BitVec.toInt_eq_toNat_of_lt (by omega), BitVec.toNat_ofNat, Nat.mod_eq_of_lt (by omega)]

/-- A chosen expert's number is below 2^31. -/
theorem chosen_lt (A : Args) (n : Fin 8192) (k : Fin 2) :
    group (A.gprob (seq n) (pos n)) * 4 + (order (A.lprob (seq n) (pos n)) (k.castLE (by decide))).val < 2 ^ 31 := by
  have h : group (A.gprob (seq n) (pos n)) < 2 := by unfold group; split <;> decide
  omega

section
variable {x0 : Vec Ideal S4x2048x1024 .f32} {x1 x2 : Vec Ideal S2048x1024 .f32}
    {x3 : Vec Ideal S1024x2048 .f32} {x4 : Vec Ideal S128x1024 .f32} {x5 : Vec Ideal S128x2048 .f32}
    {x6 x7 : Vec Ideal S128 .f32} {x8 : Vec Ideal S2048x128 .f32} {x9 : Vec Ideal S8x128x128 .f32}
    {x10 x11 : Vec Ideal S8x128 .f32} {x12 : Vec Ideal S2048x128 .f32} {x13 : Vec Ideal S1024x2048 .f32}
    {x14 : Vec Ideal S2x1024 .f32} {x15 : Vec Ideal S4x1024 .f32} {A : Args}
    (H : Held x0 x1 x2 x3 x4 x5 x6 x7 x8 x9 x10 x11 x12 x13 x14 x15 A)

include H

/-- The groups' logits. -/
theorem ref_group_logits (n : Fin 8192) (i : Fin 2) :
    val_main_v2 (F := Ideal) x0 x14 (ix2 n i) = ((dot (A.x (seq n) (pos n)) (A.wg i) : ℝ) : EReal) := by
  pointwise [val_main_v2, val_main_v1, val_main_v0]
  simp only [H.x, H.wg]
  exact dot_coe (A.x (seq n) (pos n)) (A.wg i)

/-- The groups' probabilities. -/
theorem ref_group_prob (n : Fin 8192) (i : Fin 2) :
    val_main_v13 (F := Ideal) x0 x14 (ix2 n i) = (A.gprob (seq n) (pos n) i : EReal) := by
  pointwise [val_main_v13, val_main_v12, val_main_v11, val_main_v10, val_main_v9, val_main_v8, val_main_v7, val_main_v6, val_main_v5, val_main_v4, val_main_v3, val_main_cst, val_main_cst_0, val_main_cst_1]
  exact softmax_of_max (p := fun k => val_main_v2 (F := Ideal) x0 x14 (ix2 n k)) _ i (fun k => ref_group_logits H n k)

/-- The experts' logits. -/
theorem ref_local_logits (n : Fin 8192) (j : Fin 4) :
    val_main_v17 (F := Ideal) x0 x15 (ix2 n j) = ((dot (A.x (seq n) (pos n)) (A.we j) : ℝ) : EReal) := by
  pointwise [val_main_v17, val_main_v16, val_main_v0]
  simp only [H.x, H.we]
  exact dot_coe (A.x (seq n) (pos n)) (A.we j)

/-- The experts' probabilities. -/
theorem ref_local_prob (n : Fin 8192) (j : Fin 4) :
    val_main_v28 (F := Ideal) x0 x15 (ix2 n j) = (A.lprob (seq n) (pos n) j : EReal) := by
  pointwise [val_main_v28, val_main_v27, val_main_v26, val_main_v25, val_main_v24, val_main_v23, val_main_v22, val_main_v21, val_main_v20, val_main_v19, val_main_v18, val_main_cst_2, val_main_cst_3, val_main_cst_4]
  exact softmax_of_max (p := fun k => val_main_v17 (F := Ideal) x0 x15 (ix2 n k)) _ j (fun k => ref_local_logits H n k)

/-- The chosen group's number. -/
theorem ref_group (n : Fin 8192) : val_main_v14 (F := Ideal) x0 x14 (ix1 n) = BitVec.ofNat 32 (group (A.gprob (seq n) (pos n))) := by
  pointwise [val_main_v14, val_main_indices]
  have h := (topK_row (T := 1) _ (fun n => A.gprob (seq n) (pos n)) (ref_group_prob H) (by decide) sliceFits_S8192x2_S8192x1 n 0).2
  rw [← order_pair]
  exact h

/-- The chosen group's probability. -/
theorem ref_chosen (n : Fin 8192) :
    val_main_v15 (F := Ideal) x0 x14 (ix1 n) = ((max (A.gprob (seq n) (pos n) 0) (A.gprob (seq n) (pos n) 1) : ℝ) : EReal) := by
  pointwise [val_main_v15, val_main_values]
  have h := (topK_row (T := 1) _ (fun n => A.gprob (seq n) (pos n)) (ref_group_prob H) (by decide) sliceFits_S8192x2_S8192x1 n 0).1
  rw [← order_pair_max]
  exact h

/-- The chosen experts' probabilities. -/
theorem ref_local_value (n : Fin 8192) (k : Fin 2) :
    val_main_values_5 (F := Ideal) x0 x15 (ix2 n k)
      = (A.lprob (seq n) (pos n) (order (A.lprob (seq n) (pos n)) (k.castLE (by decide))) : EReal) :=
  (topK_row (T := 2) _ (fun n => A.lprob (seq n) (pos n)) (ref_local_prob H) (by decide) sliceFits_S8192x4_S8192x2 n k).1

/-- The chosen experts' numbers within the group. -/
theorem ref_local_index (n : Fin 8192) (k : Fin 2) :
    val_main_indices_6 (F := Ideal) x0 x15 (ix2 n k)
      = BitVec.ofNat 32 (order (A.lprob (seq n) (pos n)) (k.castLE (by decide))).val :=
  (topK_row (T := 2) _ (fun n => A.lprob (seq n) (pos n)) (ref_local_prob H) (by decide) sliceFits_S8192x4_S8192x2 n k).2

/-- The chosen experts' numbers. -/
theorem ref_expert (n : Fin 8192) (k : Fin 2) :
    val_main_v33 (F := Ideal) x0 x14 x15 (ix2 n k)
      = BitVec.ofNat 32 (group (A.gprob (seq n) (pos n)) * 4 + (order (A.lprob (seq n) (pos n)) (k.castLE (by decide))).val) := by
  pointwise [val_main_v33, val_main_v32, val_main_v31, val_main_v30, val_main_v29, val_main_c]
  rw [ref_group H, ref_local_index H]
  exact expert_word _ _ (by unfold group; split <;> decide) (Fin.isLt _)

/-- The chosen experts' weights. -/
theorem ref_final (n : Fin 8192) (k : Fin 2) :
    val_main_v42 (F := Ideal) x0 x14 x15 (ix2 n k)
      = ((max (A.gprob (seq n) (pos n) 0) (A.gprob (seq n) (pos n) 1)
          * (A.lprob (seq n) (pos n) (order (A.lprob (seq n) (pos n)) (k.castLE (by decide)))
            / ((A.lprob (seq n) (pos n) (order (A.lprob (seq n) (pos n)) 0) + A.lprob (seq n) (pos n) (order (A.lprob (seq n) (pos n)) 1)) + epsSel)) : ℝ) : EReal) := by
  have hpos : (A.lprob (seq n) (pos n) (order (A.lprob (seq n) (pos n)) 0) + A.lprob (seq n) (pos n) (order (A.lprob (seq n) (pos n)) 1)) + epsSel ≠ 0 :=
    (add_pos (add_pos (softmax_pos _ _) (softmax_pos _ _)) epsSel_pos).ne'
  pointwise [val_main_v42, val_main_v41, val_main_v40, val_main_v39, val_main_v38, val_main_v37, val_main_v36, val_main_v35, val_main_v34, val_main_cst_7, val_main_cst_8]
  rw [Fin.sum_univ_two, ref_chosen H, ref_local_value H, ref_local_value H, ref_local_value H, ofBits_epsSel]
  rw [EReal.coe_mul, ← div_coe hpos, EReal.coe_add, EReal.coe_add]
  rfl

/-- The token's number in the index table. -/
theorem ref_index_token (n : Fin 8192) (k : Fin 2) :
    val_main_v59 (F := Ideal) x0 x14 x15 (ix3 n k 0) = BitVec.ofNat 32 n.val := by
  pointwise [val_main_v50, val_main_v49, val_main_v48, val_main_v47, val_main_v46, val_main_v45, val_main_v44, val_main_v56, val_main_v57, val_main_v59, val_main_c_10, val_main_c_11]
  exact Routing.wrap_of_lt _ _ (small_nonneg (by omega))

/-- The expert's number in the index table. -/
theorem ref_index_expert (n : Fin 8192) (k : Fin 2) :
    val_main_v59 (F := Ideal) x0 x14 x15 (ix3 n k 1)
      = BitVec.ofNat 32 (group (A.gprob (seq n) (pos n)) * 4 + (order (A.lprob (seq n) (pos n)) (k.castLE (by decide))).val) := by
  pointwise [val_main_v55, val_main_v54, val_main_v53, val_main_v52, val_main_v51, val_main_v58, val_main_v59, val_main_c_12, val_main_c_13]
  rw [ref_expert H]
  exact Routing.wrap_of_lt _ _ (small_nonneg (chosen_lt A n k))

/-- The weight of expert `e` at token `n`. -/
theorem ref_weight_row (n : Fin 8192) (e : Fin 8) :
    val_main_v60 (F := Ideal) x0 x14 x15 (ix2 n e) = (A.w (seq n) (pos n) e : EReal) := by
  have lands : ∀ (n' : Fin 8192) (k : Fin 2),
      scatter_S8192x8_S8192x2x2_S8192x2_n_01_01_2.resultIdx? (ix2 n' k) (val_main_v59 (F := Ideal) x0 x14 x15) = some (ix2 n e)
        ↔ n' = n ∧ group (A.gprob (seq n') (pos n')) * 4 + (order (A.lprob (seq n') (pos n')) (k.castLE (by decide))).val = e.val := fun n' k => by
    have h := Routing.scatter_lands2 scatter_S8192x8_S8192x2x2_S8192x2_n_01_01_2 rfl rfl rfl (val_main_v59 (F := Ideal) x0 x14 x15) n' k n e
    simp only [← ix2_eq_valueIdx, ← ix3_eq_valueIdx] at h
    rw [h, ref_index_token H, ref_index_expert H, toInt_small (by omega), toInt_small (chosen_lt A n' k), Int.natCast_inj, Int.natCast_inj, Fin.ext_iff]
  unfold val_main_v60
  show val_main_v43 (F := Ideal) (ix2 n e) + (Finset.univ.filter fun j =>
    scatter_S8192x8_S8192x2x2_S8192x2_n_01_01_2.resultIdx? j (val_main_v59 (F := Ideal) x0 x14 x15) = some (ix2 n e)).sum
      (fun j => val_main_v42 (F := Ideal) x0 x14 x15 j) = _
  rw [Finset.sum_filter, sum_idx2, Finset.sum_eq_single n]
  · simp only [lands, true_and, ref_final H]
    pointwise [val_main_v43, val_main_cst_9]
    unfold Args.w
    rw [← weight_pick, ← sum_coe]
    refine Finset.sum_congr rfl fun k _ => ?_
    split_ifs <;> rfl
  · intro n' _ hn
    exact Finset.sum_eq_zero fun k _ => if_neg fun h => hn ((lands n' k).1 h).1
  · intro h
    exact absurd (Finset.mem_univ n) h

/-- The weight of expert `e` at position `s` of sequence `b`. -/
theorem ref_weight (b : Fin 4) (s : Fin 2048) (e : Fin 8) :
    val_main_v61 (F := Ideal) x0 x14 x15 (ix3 b s e) = (A.w b s e : EReal) := by
  pointwise [val_main_v61]
  have h := ref_weight_row H (token b s) e
  rw [seq_token, pos_token] at h
  exact h

end

end Cert.Moe

end
-- ==== Proof.RefExperts.lean ====
/- The reference's experts: one expert's operations on arrays, read at an index, and the eight instances of them. -/
module

public import proofs.«01_k».proof.Proof.RefNetwork
public import proofs.«01_k».proof.Proof.RefRouter

@[expose] public section

noncomputable section

namespace Cert.Moe

open Idealize.ShloMosaic Cert.ReferenceIdeal Cert.ReferenceIdeal.Gen Cert.ReferenceIdeal.Read

/-! ### One expert's operations -/

/-- The tokens through the expert's matrix. -/
def exProduct (p : FVec Ideal S4x2048x128 .f32) (W : FVec Ideal S1x128x128 .f32) : FVec Ideal S4x2048x128 .f32 :=
  Host.dotGeneral (F := Ideal) (φ₁ := .f32) (φ₂ := .f32) dot_S4x2048x128_S128x128_S4x2048x128_2_0_01_1_n_n none p
    (transpose S128x128 [1, 0] (shapeCast S128x128 W shapeCasts_S1x128x128_S128x128) transposes_S128x128_S128x128_1_0)

/-- The mean of every row. -/
def exMean (y : FVec Ideal S4x2048x128 .f32) : FVec Ideal S4x2048x1 .f32 :=
  Host.divf (broadcastInDim S4x2048x1 ![0, 1] bcast_S4x2048_S4x2048x1_0_1
      (Host.reduceAdd y (constant (F := Ideal) S_ .f32 0x00000000#32) reducesTo_S4x2048x128_S4x2048_d2 h_S_))
    (broadcastInDim S4x2048x1 ![] bcast_S_S4x2048x1 (constant (F := Ideal) S_ .f32 0x43000000#32))

/-- Every row less its mean. -/
def exCentred (y : FVec Ideal S4x2048x128 .f32) : FVec Ideal S4x2048x128 .f32 :=
  subf y (broadcastInDim S4x2048x128 ![0, 1, 2] bcast_S4x2048x1_S4x2048x128_0_1_2 (exMean y))

/-- The root of every row's variance and the small number. -/
def exSpread (y : FVec Ideal S4x2048x128 .f32) : FVec Ideal S4x2048x1 .f32 :=
  Host.sqrt (addf (exMean (mulf (exCentred y) (exCentred y)))
    (broadcastInDim S4x2048x1 ![] bcast_S_S4x2048x1 (constant (F := Ideal) S_ .f32 0x3727C5AC#32)))

/-- A row of numbers along every token. -/
def exRow (g : FVec Ideal S1x128 .f32) : FVec Ideal S4x2048x128 .f32 :=
  broadcastInDim S4x2048x128 ![0, 1, 2] bcast_S1x1x128_S4x2048x128_0_1_2
    (broadcastInDim S1x1x128 ![2] bcast_S128_S1x1x128_2 (shapeCast S128 g shapeCasts_S1x128_S128))

/-- The normalised rows. -/
def exNorm (y : FVec Ideal S4x2048x128 .f32) (g b : FVec Ideal S1x128 .f32) : FVec Ideal S4x2048x128 .f32 :=
  addf (mulf (Host.divf (exCentred y) (broadcastInDim S4x2048x128 ![0, 1, 2] bcast_S4x2048x1_S4x2048x128_0_1_2 (exSpread y)))
    (exRow g)) (exRow b)

/-- A tenth of the rows through the two projections. -/
def exOut (z : FVec Ideal S4x2048x128 .f32) (x12 : FVec Ideal S2048x128 .f32) (x13 : FVec Ideal S1024x2048 .f32) : FVec Ideal S4x2048x1024 .f32 :=
  mulf (broadcastInDim S4x2048x1024 ![] bcast_S_S4x2048x1024 (constant (F := Ideal) S_ .f32 0x3DCCCCCD#32))
    (Host.dotGeneral (F := Ideal) (φ₁ := .f32) (φ₂ := .f32) dot_S4x2048x2048_S2048x1024_S4x2048x1024_2_0_01_1_n_n none
      (Host.dotGeneral (F := Ideal) (φ₁ := .f32) (φ₂ := .f32) dot_S4x2048x128_S128x2048_S4x2048x2048_2_0_01_1_n_n none z
        (transpose S128x2048 [1, 0] x12 transposes_S2048x128_S128x2048_1_0))
      (transpose S2048x1024 [1, 0] x13 transposes_S1024x2048_S2048x1024_1_0))

/-- The expert's weights as a table of sequences and positions. -/
def exWeight (w : FVec Ideal S4x2048x1 .f32) : FVec Ideal S4x2048 .f32 := shapeCast S4x2048 w shapeCasts_S4x2048x1_S4x2048

/-- A table of numbers along every output column. -/
def exWide (w : FVec Ideal S4x2048 .f32) : FVec Ideal S4x2048x1024 .f32 :=
  broadcastInDim S4x2048x1024 ![0, 1, 2] bcast_S4x2048x1_S4x2048x1024_0_1_2 (broadcastInDim S4x2048x1 ![0, 1] bcast_S4x2048_S4x2048x1_0_1 w)

/-- One where the weight is positive, zero elsewhere. -/
def exMask (w : FVec Ideal S4x2048 .f32) : FVec Ideal S4x2048 .f32 :=
  uitofp (F := Ideal) .f32 (cmpf (F := Ideal) .ogt w (broadcastInDim S4x2048 ![] bcast_S_S4x2048 (constant (F := Ideal) S_ .f32 0x00000000#32)))

/-- The expert's weighted contribution. -/
def exTerm (sh o : FVec Ideal S4x2048x1024 .f32) (w : FVec Ideal S4x2048x1 .f32) : FVec Ideal S4x2048x1024 .f32 :=
  mulf (addf sh (mulf o (exWide (exMask (exWeight w))))) (exWide (exWeight w))

/-! ### Their values -/

/-- Reading expert `e`'s matrix. -/
theorem slice_matrix (x : FVec Ideal S8x128x128 .f32) (e : Fin 8) (h : S8x128x128.Slices ![e.val, 0, 0] S1x128x128) (a k : Fin 128) :
    extractStridedSlice S1x128x128 ![e.val, 0, 0] x h (ix3 0 a k) = x (ix3 e a k) := by
  unfold extractStridedSlice
  refine congrArg x (funext fun c => ?_)
  match c with
  | ⟨0, _⟩ => exact Fin.ext (Nat.add_zero _)
  | ⟨1, _⟩ => exact Fin.ext (Nat.zero_add _)
  | ⟨2, _⟩ => exact Fin.ext (Nat.zero_add _)

/-- Reading expert `e`'s row. -/
theorem slice_row (x : FVec Ideal S8x128 .f32) (e : Fin 8) (h : S8x128.Slices ![e.val, 0] S1x128) (a : Fin 128) :
    extractStridedSlice S1x128 ![e.val, 0] x h (ix2 0 a) = x (ix2 e a) := by
  unfold extractStridedSlice
  refine congrArg x (funext fun c => ?_)
  match c with
  | ⟨0, _⟩ => exact Fin.ext (Nat.add_zero _)
  | ⟨1, _⟩ => exact Fin.ext (Nat.zero_add _)

/-- Reading expert `e`'s weights. -/
theorem slice_weight (x : FVec Ideal S4x2048x8 .f32) (e : Fin 8) (h : S4x2048x8.Slices ![0, 0, e.val] S4x2048x1) (b : Fin 4) (s : Fin 2048) :
    extractStridedSlice S4x2048x1 ![0, 0, e.val] x h (ix3 b s 0) = x (ix3 b s e) := by
  unfold extractStridedSlice
  refine congrArg x (funext fun c => ?_)
  match c with
  | ⟨0, _⟩ => exact Fin.ext (Nat.zero_add _)
  | ⟨1, _⟩ => exact Fin.ext (Nat.zero_add _)
  | ⟨2, _⟩ => exact Fin.ext (Nat.add_zero _)

/-- The normalised rows at an index. -/
theorem exNorm_apply {y : FVec Ideal S4x2048x128 .f32} {g b : FVec Ideal S1x128 .f32} {v g' b' : Fin 128 → ℝ} (q : Fin 4) (s : Fin 2048)
    (hy : ∀ k, y (ix3 q s k) = (v k : EReal)) (hg : ∀ k, g (ix2 0 k) = (g' k : EReal)) (hb : ∀ k, b (ix2 0 k) = (b' k : EReal)) (a : Fin 128) :
    exNorm y g b (ix3 q s a) = ((layerNorm v g' b' a : ℝ) : EReal) := by
  pointwise [exNorm, exRow, exSpread, exCentred, exMean]
  exact layerNorm_of (p := fun k => y (ix3 q s k)) v g' b' a hy (hg a) (hb a)

/-- The mask at an index. -/
theorem exMask_apply {w : FVec Ideal S4x2048 .f32} {r : ℝ} (b : Fin 4) (s : Fin 2048) (hw : w (ix2 b s) = (r : EReal)) :
    exMask w (ix2 b s) = (((if 0 < r then 1 else 0) : ℝ) : EReal) := by
  pointwise [exMask]
  rw [hw]
  by_cases h : 0 < r
  · rw [if_pos h, decide_eq_true (EReal.coe_pos.2 h)]
    show (((BitVec.ofBool true).toNat : ℕ) : EReal) = _
    simp
  · rw [if_neg h, decide_eq_false fun h' => h (EReal.coe_pos.1 h')]
    show (((BitVec.ofBool false).toNat : ℕ) : EReal) = _
    simp

section
variable {x0 : Vec Ideal S4x2048x1024 .f32} {x1 x2 : Vec Ideal S2048x1024 .f32}
    {x3 : Vec Ideal S1024x2048 .f32} {x4 : Vec Ideal S128x1024 .f32} {x5 : Vec Ideal S128x2048 .f32}
    {x6 x7 : Vec Ideal S128 .f32} {x8 : Vec Ideal S2048x128 .f32} {x9 : Vec Ideal S8x128x128 .f32}
    {x10 x11 : Vec Ideal S8x128 .f32} {x12 : Vec Ideal S2048x128 .f32} {x13 : Vec Ideal S1024x2048 .f32}
    {x14 : Vec Ideal S2x1024 .f32} {x15 : Vec Ideal S4x1024 .f32} {A : Args}
    (H : Held x0 x1 x2 x3 x4 x5 x6 x7 x8 x9 x10 x11 x12 x13 x14 x15 A)

variable (x0 x1 x2 x3 x4 x5 x6 x7 x8 x9 x10 x11 x12 x13 x14 x15) in
/-- Expert `e`'s contribution, from the arguments. -/
def exContribution (e : Fin 8) (h9 : S8x128x128.Slices ![e.val, 0, 0] S1x128x128) (h10 : S8x128.Slices ![e.val, 0] S1x128)
    (hw : S4x2048x8.Slices ![0, 0, e.val] S4x2048x1) : FVec Ideal S4x2048x1024 .f32 :=
  exTerm (val_main_v130 (F := Ideal) x0 x1 x2 x3 x4 x5 x6 x7 x8)
    (exOut (exNorm (exProduct (val_main_v132 (F := Ideal) x0 x4) (extractStridedSlice S1x128x128 ![e.val, 0, 0] x9 h9))
      (extractStridedSlice S1x128 ![e.val, 0] x10 h10) (extractStridedSlice S1x128 ![e.val, 0] x11 h10)) x12 x13)
    (extractStridedSlice S4x2048x1 ![0, 0, e.val] (val_main_v61 (F := Ideal) x0 x14 x15) hw)

include H in
/-- Expert `e`'s normalised vector. -/
theorem ref_expert_norm (e : Fin 8) (h9 : S8x128x128.Slices ![e.val, 0, 0] S1x128x128) (h10 : S8x128.Slices ![e.val, 0] S1x128)
    (b : Fin 4) (s : Fin 2048) (a : Fin 128) :
    exNorm (exProduct (val_main_v132 (F := Ideal) x0 x4) (extractStridedSlice S1x128x128 ![e.val, 0, 0] x9 h9))
      (extractStridedSlice S1x128 ![e.val, 0] x10 h10) (extractStridedSlice S1x128 ![e.val, 0] x11 h10) (ix3 b s a)
      = (A.expert b s e a : EReal) := by
  refine exNorm_apply b s (fun k => ?_) (fun k => (slice_row x10 e h10 k).trans (H.lg e k)) (fun k => (slice_row x11 e h10 k).trans (H.lb e k)) a
  generalize hW : extractStridedSlice S1x128x128 ![e.val, 0, 0] x9 h9 = W
  have hWk : ∀ a k, W (ix3 0 a k) = (A.wa e a k : EReal) := fun a k => by rw [← hW, slice_matrix, H.wa]
  pointwise [exProduct]
  simp only [ref_pre_again H, hWk]
  exact dot_coe (A.pre b s) (A.wa e k)

include H in
/-- Expert `e`'s contribution at an index. -/
theorem ref_contribution (e : Fin 8) (h9 : S8x128x128.Slices ![e.val, 0, 0] S1x128x128) (h10 : S8x128.Slices ![e.val, 0] S1x128)
    (hw : S4x2048x8.Slices ![0, 0, e.val] S4x2048x1) (b : Fin 4) (s : Fin 2048) (d : Fin 1024) :
    exContribution x0 x1 x2 x3 x4 x5 x6 x7 x8 x9 x10 x11 x12 x13 x14 x15 e h9 h10 hw (ix3 b s d)
      = (((A.shared b s d + tenth * A.eout b s e d * if 0 < A.w b s e then 1 else 0) * A.w b s e : ℝ) : EReal) := by
  unfold exContribution
  have hz := ref_expert_norm H e h9 h10 b s
  generalize exNorm _ _ _ = z at hz ⊢
  generalize hv : extractStridedSlice S4x2048x1 ![0, 0, e.val] (val_main_v61 (F := Ideal) x0 x14 x15) hw = v
  have hv' : exWeight v (ix2 b s) = (A.w b s e : EReal) := by
    pointwise [exWeight]
    rw [← hv, slice_weight, ref_weight H]
  have hm := exMask_apply b s hv'
  pointwise [exTerm, exOut, exWide]
  simp only [ref_shared H, hv', hm, hz, H.wep, H.wop, dot_coe (A.expert b s e), ofBits_tenth]
  rw [show (∑ h, ((dot (A.expert b s e) (A.wep h) : ℝ) : EReal) * (A.wop d h : EReal)) = (A.eout b s e d : EReal) from dot_coe _ _]
  simp only [EReal.coe_mul, EReal.coe_add]

/-! ### The result -/

include H in
/-- The reference's result, element by element. -/
theorem ref_result (b : Fin 4) (s : Fin 2048) (d : Fin 1024) :
    val_main_v541 (F := Ideal) x0 x1 x2 x3 x4 x5 x6 x7 x8 x9 x10 x11 x12 x13 x14 x15 (ix3 b s d) = (A.referenceOut b s d : EReal) := by
  have h0 := ref_contribution H 0 slices_S8x128x128_S1x128x128_0_0_0 slices_S8x128_S1x128_0_0 slices_S4x2048x8_S4x2048x1_0_0_0 b s d
  have h1 := ref_contribution H 1 slices_S8x128x128_S1x128x128_1_0_0 slices_S8x128_S1x128_1_0 slices_S4x2048x8_S4x2048x1_0_0_1 b s d
  have h2 := ref_contribution H 2 slices_S8x128x128_S1x128x128_2_0_0 slices_S8x128_S1x128_2_0 slices_S4x2048x8_S4x2048x1_0_0_2 b s d
  have h3 := ref_contribution H 3 slices_S8x128x128_S1x128x128_3_0_0 slices_S8x128_S1x128_3_0 slices_S4x2048x8_S4x2048x1_0_0_3 b s d
  have h4 := ref_contribution H 4 slices_S8x128x128_S1x128x128_4_0_0 slices_S8x128_S1x128_4_0 slices_S4x2048x8_S4x2048x1_0_0_4 b s d
  have h5 := ref_contribution H 5 slices_S8x128x128_S1x128x128_5_0_0 slices_S8x128_S1x128_5_0 slices_S4x2048x8_S4x2048x1_0_0_5 b s d
  have h6 := ref_contribution H 6 slices_S8x128x128_S1x128x128_6_0_0 slices_S8x128_S1x128_6_0 slices_S4x2048x8_S4x2048x1_0_0_6 b s d
  have h7 := ref_contribution H 7 slices_S8x128x128_S1x128x128_7_0_0 slices_S8x128_S1x128_7_0 slices_S4x2048x8_S4x2048x1_0_0_7 b s d
  have e0 : val_main_v183 (F := Ideal) x0 x1 x2 x3 x4 x5 x6 x7 x8 x9 x10 x11 x12 x13 x14 x15 (ix3 b s d) = _ := h0
  have e1 : val_main_v234 (F := Ideal) x0 x1 x2 x3 x4 x5 x6 x7 x8 x9 x10 x11 x12 x13 x14 x15 (ix3 b s d) = _ := h1
  have e2 : val_main_v285 (F := Ideal) x0 x1 x2 x3 x4 x5 x6 x7 x8 x9 x10 x11 x12 x13 x14 x15 (ix3 b s d) = _ := h2
  have e3 : val_main_v336 (F := Ideal) x0 x1 x2 x3 x4 x5 x6 x7 x8 x9 x10 x11 x12 x13 x14 x15 (ix3 b s d) = _ := h3
  have e4 : val_main_v387 (F := Ideal) x0 x1 x2 x3 x4 x5 x6 x7 x8 x9 x10 x11 x12 x13 x14 x15 (ix3 b s d) = _ := h4
  have e5 : val_main_v438 (F := Ideal) x0 x1 x2 x3 x4 x5 x6 x7 x8 x9 x10 x11 x12 x13 x14 x15 (ix3 b s d) = _ := h5
  have e6 : val_main_v489 (F := Ideal) x0 x1 x2 x3 x4 x5 x6 x7 x8 x9 x10 x11 x12 x13 x14 x15 (ix3 b s d) = _ := h6
  have e7 : val_main_v540 (F := Ideal) x0 x1 x2 x3 x4 x5 x6 x7 x8 x9 x10 x11 x12 x13 x14 x15 (ix3 b s d) = _ := h7
  unfold Args.referenceOut
  rw [Fin.sum_univ_eight]
  pointwise [val_main_v541, val_main_v490, val_main_v439, val_main_v388, val_main_v337, val_main_v286, val_main_v235, val_main_v184, val_main_v133, val_main_cst_27]
  rw [e0, e1, e2, e3, e4, e5, e6, e7]
  simp only [EReal.coe_add]

end

end Cert.Moe

end
-- ==== Proof.Algebra.lean ====
/- The kernel and the reference leave the same result, over the extended reals, on finite arguments. -/
module

public import proofs.«01_k».proof.Defs
public import proofs.«01_k».proof.Proof.Finite
public import proofs.«01_k».proof.Proof.Equation
public import proofs.«01_k».proof.Proof.KernelRun
public import proofs.«01_k».proof.Proof.KernelValue
public import proofs.«01_k».proof.Proof.RefExperts
public import proofs.«01_k».proof.Proof.Gen.ReferenceIdeal.Run

@[expose] public section

noncomputable section

namespace Cert.Moe

open Idealize.ShloMosaic Idealize.ShloMosaic.TcCoe Idealize.SL.Sem

/-- On arguments that hold `A` the reference's last array is the kernel's result. -/
theorem reference_result (m : (ℓ : Loc Cert.ReferenceIdeal.nD Cert.ReferenceIdeal.τ Cert.ReferenceIdeal.sig) → Buf (Elt Ideal) ℓ)
    (c : Dev Cert.ReferenceIdeal.nD) {A : Args}
    (H : Held (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
      (m ((c.tc : Thread Cert.ReferenceIdeal.nD Cert.ReferenceIdeal.τ).loc Cert.ReferenceIdeal.main_arg13))
      (m ((c.tc : Thread Cert.ReferenceIdeal.nD Cert.ReferenceIdeal.τ).loc Cert.ReferenceIdeal.main_arg14))
      (m ((c.tc : Thread Cert.ReferenceIdeal.nD Cert.ReferenceIdeal.τ).loc Cert.ReferenceIdeal.main_arg15)) A) :
    Cert.ReferenceIdeal.Value.res_main_v541 (StableHlo.launchContents m c) = perResult A.kernelOut := by
  rw [Cert.ReferenceIdeal.Read.val_main_v541_eq]
  funext i
  rw [eq_ix3 i]
  exact (ref_result H _ _ _).trans (congrArg Real.toEReal (A.kernelOut_eq_referenceOut _ _ _).symm)

/-- The kernel and the reference, launched on the same finite arguments, leave the same result and their arguments as they
    were. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  choose A hA using fun c => held_of_finite _ _ _ _ _ _ _ _ _ _ _ _ _ _ _ _ (hpre c)
  refine ⟨fun c => perResult (A c).kernelOut, ?_, ?_⟩
  · refine (θ_run _ _ _).mono (fun r h c => ?_) (kernel_run m g)
    obtain ⟨hv, ha⟩ := h c
    exact ⟨hv.trans (kernel_result g (hA c)), ha _ (by decide), ha _ (by decide), ha _ (by decide), ha _ (by decide),
      ha _ (by decide), ha _ (by decide), ha _ (by decide), ha _ (by decide), ha _ (by decide), ha _ (by decide),
      ha _ (by decide), ha _ (by decide), ha _ (by decide), ha _ (by decide), ha _ (by decide), ha _ (by decide)⟩
  · refine (θ_run _ _ _).mono (fun r h c => ⟨(h c).1.trans (reference_result m' c ?_), (h c).2⟩) (Cert.ReferenceIdeal.Value.run (F := Ideal) m' g')
    obtain ⟨e0, e1, e2, e3, e4, e5, e6, e7, e8, e9, e10, e11, e12, e13, e14, e15⟩ := hargs c
    rw [e0, e1, e2, e3, e4, e5, e6, e7, e8, e9, e10, e11, e12, e13, e14, e15]
    exact hA c

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The kernel runs and leaves its arguments and semaphores as it found them. -/
theorem frameKernel : Cert.quiescent_Kernel (hKernel := Cert.Kernel.Gen.facts) := fun m ρ _ => Cert.Kernel.Gen.frame m ρ

/-- So does the kernel in exact arithmetic. -/
theorem frameIdeal : Cert.quiescent_KernelIdeal (hKernelIdeal := Cert.KernelIdeal.Gen.facts) := fun m ρ _ => Cert.KernelIdeal.Gen.frame m ρ

/-- So does the reference in exact arithmetic. -/
theorem frameReference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's frame holds in particular on finite arguments. -/
theorem frameIdealFinite : Cert.quiescent_KernelIdeal_pre_finite (hKernelIdeal := Cert.KernelIdeal.Gen.facts)
    (hPre_finite := Cert.Pre_finite.Gen.facts) := fun m ρ _ => Cert.KernelIdeal.Gen.frame m ρ

/-- So does the reference's. -/
theorem frameReferenceFinite : Cert.quiescent_ReferenceIdeal_pre_finite (hReferenceIdeal := Cert.ReferenceIdeal.Gen.facts)
    (hPre_finite := Cert.Pre_finite.Gen.facts) := fun m ρ _ => frameReference m ρ trivial

/-- Every claim of the certificate. -/
theorem claim : Cert.Claim :=
  ⟨Cert.Kernel.Gen.facts, Cert.KernelIdeal.Gen.facts, Cert.ReferenceIdeal.Gen.facts, Cert.Pre_finite.Gen.facts,
    frameKernel, frameIdeal, frameIdealFinite, frameReference, frameReferenceFinite, trivial, Cert.Moe.algebraic⟩

end Cert.Proof

end
